-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale" .f32 0x40BE76C9#32 ((3195455667 / 536870912 : ℝ) : EReal)

def algebraic_KernelIdeal_ReferenceIdeal_on_denominators_not_negative_pre_finite [hKernelIdeal : Cert.KernelIdeal.Facts] [hReferenceIdeal : Cert.ReferenceIdeal.Facts] [hPre_finite : Cert.Pre_finite.Facts] [hOn_denominators_not_negative : Cert.On_denominators_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![131072, 16]⟩ : Shape).Idx, (Cert.On_denominators_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v0_0) i = v0 c i)
          ∧ (∀ i : (⟨1, ![131072]⟩ : Shape).Idx, (Cert.On_denominators_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![131072, 16]⟩ : Shape).Idx, (Cert.On_denominators_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v141) i = v0 c i)
          ∧ (∀ i : (⟨1, ![131072]⟩ : Shape).Idx, (Cert.On_denominators_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.ReferenceIdeal.nD Cert.ReferenceIdeal.τ).loc Cert.ReferenceIdeal.main_v143) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts) (hOn_denominators_not_negative : Cert.On_denominators_not_negative.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_denominators_not_negative_pre_finite (hKernelIdeal := hKernelIdeal) (hReferenceIdeal := hReferenceIdeal) (hPre_finite := hPre_finite) (hOn_denominators_not_negative := hOn_denominators_not_negative)
-- ==== On_denominators_not_negative.lean ====
abbrev S131072x16 : Shape := ⟨2, ![131072, 16]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x400 : Shape := ⟨2, ![128, 400]⟩
abbrev S400 : Shape := ⟨1, ![400]⟩
abbrev S131072x64 : Shape := ⟨2, ![131072, 64]⟩
abbrev S1x64 : Shape := ⟨2, ![1, 64]⟩
abbrev S_ : Shape := ⟨0, ![]⟩
abbrev S131072x128 : Shape := ⟨2, ![131072, 128]⟩
abbrev S1x128 : Shape := ⟨2, ![1, 128]⟩
abbrev S131072x400 : Shape := ⟨2, ![131072, 400]⟩
abbrev S1x400 : Shape := ⟨2, ![1, 400]⟩
abbrev S131072x16x25 : Shape := ⟨3, ![131072, 16, 25]⟩
abbrev S131072x16x8 : Shape := ⟨3, ![131072, 16, 8]⟩
abbrev S131072x16x1 : Shape := ⟨3, ![131072, 16, 1]⟩
abbrev S131072x16x9 : Shape := ⟨3, ![131072, 16, 9]⟩
abbrev S131072x16x1x1 : Shape := ⟨4, ![131072, 16, 1, 1]⟩
abbrev S131072 : Shape := ⟨1, ![131072]⟩

class Facts : Prop where
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S400_S1x400_1 : S400.BroadcastsInDim S1x400 (![1] : Fin 1 → Fin S1x400.rank)
  bcast_S1x400_S131072x400_0_1 : S1x400.BroadcastsInDim S131072x400 (![0, 1] : Fin 2 → Fin S131072x400.rank)
  shapeCasts_S131072x400_S131072x16x25 : S131072x400.ShapeCasts S131072x16x25
  slices_S131072x16x25_S131072x16x8_0_0_0 : S131072x16x25.Slices ![0, 0, 0] S131072x16x8
  reducesTo_S131072x16x8_S131072x16_d2 : S131072x16x8.ReducesTo [2] S131072x16
  h_S_ : 0 < S_.numel
  bcast_S_S131072x16 : S_.BroadcastsInDim S131072x16 (![] : Fin 0 → Fin S131072x16.rank)
  bcast_S131072x16_S131072x16x1_0_1 : S131072x16.BroadcastsInDim S131072x16x1 (![0, 1] : Fin 2 → Fin S131072x16x1.rank)
  bcast_S131072x16x1_S131072x16x8_0_1_2 : S131072x16x1.BroadcastsInDim S131072x16x8 (![0, 1, 2] : Fin 3 → Fin S131072x16x8.rank)
  slices_S131072x16x25_S131072x16x8_0_0_8 : S131072x16x25.Slices ![0, 0, 8] S131072x16x8
  slices_S131072x16x25_S131072x16x9_0_0_16 : S131072x16x25.Slices ![0, 0, 16] S131072x16x9
  bcast_S_S131072x16x9 : S_.BroadcastsInDim S131072x16x9 (![] : Fin 0 → Fin S131072x16x9.rank)
  bcast_S_S131072x16x8 : S_.BroadcastsInDim S131072x16x8 (![] : Fin 0 → Fin S131072x16x8.rank)
  bcast_S_S131072x16x1 : S_.BroadcastsInDim S131072x16x1 (![] : Fin 0 → Fin S131072x16x1.rank)
  bcast_S_S_ : S_.BroadcastsInDim S_ (![] : Fin 0 → Fin S_.rank)
  reduceWindows_S131072x16x8_S131072x16x8_w1s1p0_0_w1s1p0_0_w8s1p7_0 : S131072x16x8.ReduceWindows (![1, 1, 8] : Fin 3 → Nat) ![1, 1, 1] ![0, 0, 7] ![0, 0, 0] S131072x16x8
  concatenates_S131072x16x1_S131072x16x8_S131072x16x9_d2 : Shape.Concatenates [S131072x16x1, S131072x16x8] S131072x16x9 2
  bcast_S131072x16x1_S131072x16x9_0_1_2 : S131072x16x1.BroadcastsInDim S131072x16x9 (![0, 1, 2] : Fin 3 → Fin S131072x16x9.rank)
  natLt_1_32 : 1 < 32
  reducesTo_S131072x16x9_S131072x16_d2 : S131072x16x9.ReducesTo [2] S131072x16
  shapeCasts_S131072x16x1_S131072x16x1x1 : S131072x16x1.ShapeCasts S131072x16x1x1
  shapeCasts_S131072x16x1_S131072x16 : S131072x16x1.ShapeCasts S131072x16
  reducesTo_S131072x16_S131072_d1 : S131072x16.ReducesTo [1] S131072
  dot_S131072x16_S16x64_S131072x64_1_0_0_1_n_n_wf : DotDims.WF S131072x16 S16x64 S131072x64 [1] [0] [0] [1] [] []
  dot_S131072x64_S64x128_S131072x128_1_0_0_1_n_n_wf : DotDims.WF S131072x64 S64x128 S131072x128 [1] [0] [0] [1] [] []
  dot_S131072x128_S128x400_S131072x400_1_0_0_1_n_n_wf : DotDims.WF S131072x128 S128x400 S131072x400 [1] [0] [0] [1] [] []
  gather_S131072x16x9_S131072x16x1x1_S131072x16x1_n_2_01_01_2_3_111_wf : GatherDims.WF S131072x16x9 S131072x16x1x1 S131072x16x1 [] [2] [0, 1] [2] [0, 1] 3 ![1, 1, 1]
  gather_S131072x16x8_S131072x16x1x1_S131072x16x1_n_2_01_01_2_3_111_wf : GatherDims.WF S131072x16x8 S131072x16x1x1 S131072x16x1 [] [2] [0, 1] [2] [0, 1] 3 ![1, 1, 1]

variable [Facts]

def dot_S131072x16_S16x64_S131072x64_1_0_0_1_n_n : DotDims S131072x16 S16x64 S131072x64 where
  lhsContracting := [1]
  rhsContracting := [0]
  lhsNonContracting := [0]
  rhsNonContracting := [1]
  lhsBatch := []
  rhsBatch := []
  wf := dot_S131072x16_S16x64_S131072x64_1_0_0_1_n_n_wf
def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf
def dot_S131072x128_S128x400_S131072x400_1_0_0_1_n_n : DotDims S131072x128 S128x400 S131072x400 where
  lhsContracting := [1]
  rhsContracting := [0]
  lhsNonContracting := [0]
  rhsNonContracting := [1]
  lhsBatch := []
  rhsBatch := []
  wf := dot_S131072x128_S128x400_S131072x400_1_0_0_1_n_n_wf
def gather_S131072x16x9_S131072x16x1x1_S131072x16x1_n_2_01_01_2_3_111 : GatherDims S131072x16x9 S131072x16x1x1 S131072x16x1 where
  offsetDims := []
  collapsedSliceDims := [2]
  operandBatchingDims := [0, 1]
  startIndicesBatchingDims := [0, 1]
  startIndexMap := [2]
  indexVectorDim := 3
  sliceSizes := ![1, 1, 1]
  wf := gather_S131072x16x9_S131072x16x1x1_S131072x16x1_n_2_01_01_2_3_111_wf
def gather_S131072x16x8_S131072x16x1x1_S131072x16x1_n_2_01_01_2_3_111 : GatherDims S131072x16x8 S131072x16x1x1 S131072x16x1 where
  offsetDims := []
  collapsedSliceDims := [2]
  operandBatchingDims := [0, 1]
  startIndicesBatchingDims := [0, 1]
  startIndexMap := [2]
  indexVectorDim := 3
  sliceSizes := ![1, 1, 1]
  wf := gather_S131072x16x8_S131072x16x1x1_S131072x16x1_n_2_01_01_2_3_111_wf
def fn_relu {F : FTy → Type} [FloatOps F] (arg0 : FVec F S131072x64 .f32) : FVec F S131072x64 .f32 :=
  let cst : FVec F S_ .f32 := constant S_ .f32 0x00000000#32
  let v0 : FVec F S131072x64 .f32 := broadcastInDim S131072x64 ![] bcast_S_S131072x64 cst
  let v1 : FVec F S131072x64 .f32 := maximumf arg0 v0
  v1

def fn_relu_0 {F : FTy → Type} [FloatOps F] (arg0 : FVec F S131072x128 .f32) : FVec F S131072x128 .f32 :=
  let cst : FVec F S_ .f32 := constant S_ .f32 0x00000000#32
  let v0 : FVec F S131072x128 .f32 := broadcastInDim S131072x128 ![] bcast_S_S131072x128 cst
  let v1 : FVec F S131072x128 .f32 := maximumf arg0 v0
  v1

def fn_softplus {F : FTy → Type} [FloatOps F] (arg0 : FVec F S131072x16x9 .f32) : FVec F S131072x16x9 .f32 :=
  let cst : FVec F S_ .f32 := constant S_ .f32 0x00000000#32
  let v0 : FVec F S131072x16x9 .f32 := broadcastInDim S131072x16x9 ![] bcast_S_S131072x16x9 cst
  let v1 : FVec F S131072x16x9 .f32 := maximumf arg0 v0
  let v2 : FVec F S131072x16x9 .f32 := broadcastInDim S131072x16x9 ![] bcast_S_S131072x16x9 cst
  let v3 : FVec F S131072x16x9 .f32 := subf arg0 v2
  let v4 : IVec S131072x16x9 1 := cmpf .une v3 v3
  let v5 : FVec F S131072x16x9 .f32 := broadcastInDim S131072x16x9 ![] bcast_S_S131072x16x9 cst
  let v6 : FVec F S131072x16x9 .f32 := addf arg0 v5
  let v7 : FVec F S131072x16x9 .f32 := Host.absf v3
  let v8 : FVec F S131072x16x9 .f32 := Host.negf v7
  let v9 : FVec F S131072x16x9 .f32 := Host.exp v8
  let v10 : FVec F S131072x16x9 .f32 := Host.log1p v9
  let v11 : FVec F S131072x16x9 .f32 := addf v1 v10
  let v12 : FVec F S131072x16x9 .f32 := select v4 v6 v11
  v12

def fn_cumsum_1 {F : FTy → Type} [FloatOps F] (arg0 : FVec F S131072x16x8 .f32) : FVec F S131072x16x8 .f32 :=
  let cst : FVec F S_ .f32 := constant S_ .f32 0x00000000#32
  let v0 : FVec F S_ .f32 := broadcastInDim S_ ![] bcast_S_S_ cst
  let v1 : FVec F S131072x16x8 .f32 := (fun x v => Host.reduceWindowAdd ![1, 1, 8] ![1, 1, 1] ![0, 0, 7] ![0, 0, 0] x v reduceWindows_S131072x16x8_S131072x16x8_w1s1p0_0_w1s1p0_0_w8s1p7_0 h_S_) arg0 v0
  v1

def fn_cumsum {F : FTy → Type} [FloatOps F] (arg0 : FVec F S131072x16x8 .f32) : FVec F S131072x16x8 .f32 :=
  let v0 : FVec F S131072x16x8 .f32 := fn_cumsum_1 (F := F) arg0
  v0

def fn_where {F : FTy → Type} [FloatOps F] (arg0 : IVec S131072x16 1) (arg1 : FVec F S131072x16 .f32) (arg2 : FVec F S_ .f32) : FVec F S131072x16 .f32 :=
  let v0 : FVec F S_ .f32 := id arg2
  let v1 : FVec F S131072x16 .f32 := broadcastInDim S131072x16 ![] bcast_S_S131072x16 v0
  let v2 : FVec F S131072x16 .f32 := select arg0 arg1 v1
  v2

def fn_clip {F : FTy → Type} [FloatOps F] (arg0 : IVec S131072x16 32) (arg1 : IVec S_ 32) (arg2 : IVec S_ 32) : IVec S131072x16 32 :=
  let v0 : IVec S_ 32 := id arg1
  let v1 : IVec S131072x16 32 := broadcastInDim S131072x16 ![] bcast_S_S131072x16 v0
  let v2 : IVec S131072x16 32 := maxsi v1 arg0
  let v3 : IVec S_ 32 := id arg2
  let v4 : IVec S131072x16 32 := broadcastInDim S131072x16 ![] bcast_S_S131072x16 v3
  let v5 : IVec S131072x16 32 := minsi v4 v2
  v5

def fn_take_along_axis {F : FTy → Type} [FloatOps F] (arg0 : FVec F S131072x16x9 .f32) (arg1 : IVec S131072x16x1 32) : FVec F S131072x16x1 .f32 :=
  let c : IVec S_ 32 := constantI S_ 32 0#32
  let v0 : IVec S131072x16x1 32 := broadcastInDim S131072x16x1 ![] bcast_S_S131072x16x1 c
  let v1 : IVec S131072x16x1 1 := cmpi .slt arg1 v0
  let c_0 : IVec S_ 32 := constantI S_ 32 9#32
  let v2 : IVec S131072x16x1 32 := broadcastInDim S131072x16x1 ![] bcast_S_S131072x16x1 c_0
  let v3 : IVec S131072x16x1 32 := addi arg1 v2
  let v4 : IVec S131072x16x1 32 := select v1 v3 arg1
  let v5 : IVec S131072x16x1x1 32 := shapeCast S131072x16x1x1 v4 shapeCasts_S131072x16x1_S131072x16x1x1
  let v6 : FVec F S131072x16x1 .f32 := (fun x i => Host.gather gather_S131072x16x9_S131072x16x1x1_S131072x16x1_n_2_01_01_2_3_111 x i) arg0 v5
  v6

def fn_take_along_axis_2 {F : FTy → Type} [FloatOps F] (arg0 : FVec F S131072x16x8 .f32) (arg1 : IVec S131072x16x1 32) : FVec F S131072x16x1 .f32 :=
  let c : IVec S_ 32 := constantI S_ 32 0#32
  let v0 : IVec S131072x16x1 32 := broadcastInDim S131072x16x1 ![] bcast_S_S131072x16x1 c
  let v1 : IVec S131072x16x1 1 := cmpi .slt arg1 v0
  let c_0 : IVec S_ 32 := constantI S_ 32 8#32
  let v2 : IVec S131072x16x1 32 := broadcastInDim S131072x16x1 ![] bcast_S_S131072x16x1 c_0
  let v3 : IVec S131072x16x1 32 := addi arg1 v2
  let v4 : IVec S131072x16x1 32 := select v1 v3 arg1
  let v5 : IVec S131072x16x1x1 32 := shapeCast S131072x16x1x1 v4 shapeCasts_S131072x16x1_S131072x16x1x1
  let v6 : FVec F S131072x16x1 .f32 := (fun x i => Host.gather gather_S131072x16x8_S131072x16x1x1_S131072x16x1_n_2_01_01_2_3_111 x i) arg0 v5
  v6

def fn_part6 {F : FTy → Type} [FloatOps F] (main_v72 : IVec S131072x16 1) (main_v101 : FVec F S131072x16 .f32) (main_v112 : FVec F S131072x16 .f32) (main_v113 : FVec F S131072x16 .f32) : IVec S131072x16 1 × IVec S131072 1 :=
  let main_v114 : FVec F S131072x16 .f32 := mulf main_v101 main_v113
  let main_v115 : FVec F S131072x16 .f32 := addf main_v112 main_v114
  let main_cst_28 : FVec F S_ .f32 := constant S_ .f32 0x00000000#32
  let main_v116 : FVec F S131072x16 .f32 := broadcastInDim S131072x16 ![] bcast_S_S131072x16 main_cst_28
  let main_v117 : IVec S131072x16 1 := cmpf .olt main_v115 main_v116
  let main_v118 : IVec S131072x16 1 := andi main_v72 main_v117
  let main_v119 : IVec S131072x16 1 := noti main_v118
  let main_c_29 : IVec S_ 1 := constantI S_ 1 1#1
  let main_v120 : IVec S131072x16 1 := broadcastInDim S131072x16 ![] bcast_S_S131072x16 main_c_29
  let main_c_30 : IVec S_ 1 := constantI S_ 1 1#1
  let main_v121 : IVec S131072 1 := (fun x v => Host.reduce IntOp.andi x v reducesTo_S131072x16_S131072_d1 h_S_) main_v119 main_c_30
  (main_v120, main_v121)

def fn_part5 {F : FTy → Type} [FloatOps F] (main_v42 : FVec F S131072x16x9 .f32) (main_v72 : IVec S131072x16 1) (main_v73 : FVec F S131072x16 .f32) (main_v81 : IVec S131072x16 32) (main_v84 : FVec F S131072x16 .f32) (main_v87 : FVec F S131072x16 .f32) (main_v92 : FVec F S131072x16x1 .f32) : IVec S131072x16 1 × IVec S131072 1 :=
  let main_v93 : FVec F S131072x16 .f32 := shapeCast S131072x16 main_v92 shapeCasts_S131072x16x1_S131072x16
  let main_v94 : IVec S131072x16x1 32 := broadcastInDim S131072x16x1 ![0, 1] bcast_S131072x16_S131072x16x1_0_1 main_v81
  let main_v95 : FVec F S131072x16x1 .f32 := fn_take_along_axis (F := F) main_v42 main_v94
  let main_v96 : FVec F S131072x16 .f32 := shapeCast S131072x16 main_v95 shapeCasts_S131072x16x1_S131072x16
  let main_c_25 : IVec S_ 32 := constantI S_ 32 1#32
  let main_v97 : IVec S131072x16 32 := broadcastInDim S131072x16 ![] bcast_S_S131072x16 main_c_25
  let main_v98 : IVec S131072x16 32 := addi main_v81 main_v97
  let main_v99 : IVec S131072x16x1 32 := broadcastInDim S131072x16x1 ![0, 1] bcast_S131072x16_S131072x16x1_0_1 main_v98
  let main_v100 : FVec F S131072x16x1 .f32 := fn_take_along_axis (F := F) main_v42 main_v99
  let main_v101 : FVec F S131072x16 .f32 := shapeCast S131072x16 main_v100 shapeCasts_S131072x16x1_S131072x16
  let main_v102 : FVec F S131072x16 .f32 := subf main_v73 main_v84
  let main_v103 : FVec F S131072x16 .f32 := Host.divf main_v102 main_v87
  let main_cst_26 : FVec F S_ .f32 := constant S_ .f32 0x3F800000#32
  let main_v104 : FVec F S131072x16 .f32 := broadcastInDim S131072x16 ![] bcast_S_S131072x16 main_cst_26
  let main_v105 : FVec F S131072x16 .f32 := subf main_v104 main_v103
  let main_v106 : FVec F S131072x16 .f32 := mulf main_v103 main_v103
  let main_v107 : FVec F S131072x16 .f32 := mulf main_v96 main_v106
  let main_cst_27 : FVec F S_ .f32 := constant S_ .f32 0x40000000#32
  let main_v108 : FVec F S131072x16 .f32 := broadcastInDim S131072x16 ![] bcast_S_S131072x16 main_cst_27
  let main_v109 : FVec F S131072x16 .f32 := mulf main_v108 main_v101
  let main_v110 : FVec F S131072x16 .f32 := mulf main_v109 main_v103
  let main_v111 : FVec F S131072x16 .f32 := mulf main_v110 main_v105
  let main_v112 : FVec F S131072x16 .f32 := addf main_v107 main_v111
  let main_v113 : FVec F S131072x16 .f32 := mulf main_v105 main_v105
  fn_part6 (F := F) main_v72 main_v101 main_v112 main_v113

def fn_part4 {F : FTy → Type} [FloatOps F] (main_arg0 : FVec F S131072x16 .f32) (main_v42 : FVec F S131072x16x9 .f32) (main_v52 : FVec F S131072x16x8 .f32) (main_v58 : FVec F S131072x16x8 .f32) (main_v63 : FVec F S131072x16x9 .f32) (main_v67 : FVec F S131072x16x9 .f32) (main_v72 : IVec S131072x16 1) (main_cst_21 : FVec F S_ .f32) : IVec S131072x16 1 × IVec S131072 1 :=
  let main_v73 : FVec F S131072x16 .f32 := fn_where (F := F) main_v72 main_arg0 main_cst_21
  let main_v74 : FVec F S131072x16x1 .f32 := broadcastInDim S131072x16x1 ![0, 1] bcast_S131072x16_S131072x16x1_0_1 main_v73
  let main_v75 : FVec F S131072x16x9 .f32 := broadcastInDim S131072x16x9 ![0, 1, 2] bcast_S131072x16x1_S131072x16x9_0_1_2 main_v74
  let main_v76 : IVec S131072x16x9 1 := cmpf .oge main_v75 main_v63
  let main_v77 : IVec S131072x16x9 32 := (extui 32 · natLt_1_32) main_v76
  let main_c : IVec S_ 32 := constantI S_ 32 0#32
  let main_v78 : IVec S131072x16 32 := (fun x v => Host.reduce IntOp.addi x v reducesTo_S131072x16x9_S131072x16_d2 h_S_) main_v77 main_c
  let main_c_22 : IVec S_ 32 := constantI S_ 32 1#32
  let main_v79 : IVec S131072x16 32 := broadcastInDim S131072x16 ![] bcast_S_S131072x16 main_c_22
  let main_v80 : IVec S131072x16 32 := subi main_v78 main_v79
  let main_c_23 : IVec S_ 32 := constantI S_ 32 0#32
  let main_c_24 : IVec S_ 32 := constantI S_ 32 7#32
  let main_v81 : IVec S131072x16 32 := fn_clip (F := F) main_v80 main_c_23 main_c_24
  let main_v82 : IVec S131072x16x1 32 := broadcastInDim S131072x16x1 ![0, 1] bcast_S131072x16_S131072x16x1_0_1 main_v81
  let main_v83 : FVec F S131072x16x1 .f32 := fn_take_along_axis (F := F) main_v63 main_v82
  let main_v84 : FVec F S131072x16 .f32 := shapeCast S131072x16 main_v83 shapeCasts_S131072x16x1_S131072x16
  let main_v85 : IVec S131072x16x1 32 := broadcastInDim S131072x16x1 ![0, 1] bcast_S131072x16_S131072x16x1_0_1 main_v81
  let main_v86 : FVec F S131072x16x1 .f32 := fn_take_along_axis_2 (F := F) main_v52 main_v85
  let main_v87 : FVec F S131072x16 .f32 := shapeCast S131072x16 main_v86 shapeCasts_S131072x16x1_S131072x16
  let main_v88 : IVec S131072x16x1 32 := broadcastInDim S131072x16x1 ![0, 1] bcast_S131072x16_S131072x16x1_0_1 main_v81
  let main_v89 : FVec F S131072x16x1 .f32 := fn_take_along_axis (F := F) main_v67 main_v88
  let main_v90 : FVec F S131072x16 .f32 := shapeCast S131072x16 main_v89 shapeCasts_S131072x16x1_S131072x16
  let main_v91 : IVec S131072x16x1 32 := broadcastInDim S131072x16x1 ![0, 1] bcast_S131072x16_S131072x16x1_0_1 main_v81
  let main_v92 : FVec F S131072x16x1 .f32 := fn_take_along_axis_2 (F := F) main_v58 main_v91
  fn_part5 (F := F) main_v42 main_v72 main_v73 main_v81 main_v84 main_v87 main_v92

def fn_part3 {F : FTy → Type} [FloatOps F] (main_arg0 : FVec F S131072x16 .f32) (main_v42 : FVec F S131072x16x9 .f32) (main_v46 : FVec F S131072x16x8 .f32) (main_v52 : FVec F S131072x16x8 .f32) (main_v55 : FVec F S131072x16x8 .f32) : IVec S131072x16 1 × IVec S131072 1 :=
  let main_v56 : FVec F S131072x16x8 .f32 := mulf main_v46 main_v55
  let main_cst_15 : FVec F S_ .f32 := constant S_ .f32 0x3A83126F#32
  let main_v57 : FVec F S131072x16x8 .f32 := broadcastInDim S131072x16x8 ![] bcast_S_S131072x16x8 main_cst_15
  let main_v58 : FVec F S131072x16x8 .f32 := addf main_v56 main_v57
  let main_cst_16 : FVec F S_ .f32 := constant S_ .f32 0x00000000#32
  let main_v59 : FVec F S131072x16x1 .f32 := broadcastInDim S131072x16x1 ![] bcast_S_S131072x16x1 main_cst_16
  let main_v60 : FVec F S131072x16x8 .f32 := fn_cumsum (F := F) main_v52
  let main_v61 : FVec F S131072x16x9 .f32 := (fun a b => concatenate S131072x16x9 2 [⟨S131072x16x1, a⟩, ⟨S131072x16x8, b⟩] concatenates_S131072x16x1_S131072x16x8_S131072x16x9_d2) main_v59 main_v60
  let main_cst_17 : FVec F S_ .f32 := constant S_ .f32 0x40400000#32
  let main_v62 : FVec F S131072x16x9 .f32 := broadcastInDim S131072x16x9 ![] bcast_S_S131072x16x9 main_cst_17
  let main_v63 : FVec F S131072x16x9 .f32 := subf main_v61 main_v62
  let main_v64 : FVec F S131072x16x8 .f32 := fn_cumsum (F := F) main_v58
  let main_v65 : FVec F S131072x16x9 .f32 := (fun a b => concatenate S131072x16x9 2 [⟨S131072x16x1, a⟩, ⟨S131072x16x8, b⟩] concatenates_S131072x16x1_S131072x16x8_S131072x16x9_d2) main_v59 main_v64
  let main_cst_18 : FVec F S_ .f32 := constant S_ .f32 0x40400000#32
  let main_v66 : FVec F S131072x16x9 .f32 := broadcastInDim S131072x16x9 ![] bcast_S_S131072x16x9 main_cst_18
  let main_v67 : FVec F S131072x16x9 .f32 := subf main_v65 main_v66
  let main_cst_19 : FVec F S_ .f32 := constant S_ .f32 0xC0400000#32
  let main_v68 : FVec F S131072x16 .f32 := broadcastInDim S131072x16 ![] bcast_S_S131072x16 main_cst_19
  let main_v69 : IVec S131072x16 1 := cmpf .oge main_arg0 main_v68
  let main_cst_20 : FVec F S_ .f32 := constant S_ .f32 0x40400000#32
  let main_v70 : FVec F S131072x16 .f32 := broadcastInDim S131072x16 ![] bcast_S_S131072x16 main_cst_20
  let main_v71 : IVec S131072x16 1 := cmpf .ole main_arg0 main_v70
  let main_v72 : IVec S131072x16 1 := andi main_v69 main_v71
  let main_cst_21 : FVec F S_ .f32 := constant S_ .f32 0x00000000#32
  fn_part4 (F := F) main_arg0 main_v42 main_v52 main_v58 main_v63 main_v67 main_v72 main_cst_21

def fn_part2 {F : FTy → Type} [FloatOps F] (main_arg0 : FVec F S131072x16 .f32) (main_v26 : FVec F S131072x16x8 .f32) (main_v38 : FVec F S131072x16x8 .f32) (main_v40 : FVec F S131072x16x9 .f32) (main_cst_5 : FVec F S_ .f32) : IVec S131072x16 1 × IVec S131072 1 :=
  let main_v41 : FVec F S131072x16x9 .f32 := broadcastInDim S131072x16x9 ![] bcast_S_S131072x16x9 main_cst_5
  let main_v42 : FVec F S131072x16x9 .f32 := addf main_v40 main_v41
  let main_cst_6 : FVec F S_ .f32 := constant S_ .f32 0x40C00000#32
  let main_v43 : FVec F S131072x16x8 .f32 := broadcastInDim S131072x16x8 ![] bcast_S_S131072x16x8 main_cst_6
  let main_v44 : FVec F S131072x16x8 .f32 := mulf main_v26 main_v43
  let main_cst_7 : FVec F S_ .f32 := constant S_ .f32 0x40C00000#32
  let main_v45 : FVec F S131072x16x8 .f32 := broadcastInDim S131072x16x8 ![] bcast_S_S131072x16x8 main_cst_7
  let main_v46 : FVec F S131072x16x8 .f32 := mulf main_v38 main_v45
  let main_cst_8 : FVec F S_ .f32 := constant S_ .f32 0x41000000#32
  let main_cst_9 : FVec F S_ .f32 := constant S_ .f32 0x3A83126F#32
  let main_v47 : FVec F S_ .f32 := mulf main_cst_8 main_cst_9
  let main_cst_10 : FVec F S_ .f32 := constant S_ .f32 0x3F800000#32
  let main_v48 : FVec F S_ .f32 := subf main_cst_10 main_v47
  let main_v49 : FVec F S131072x16x8 .f32 := broadcastInDim S131072x16x8 ![] bcast_S_S131072x16x8 main_v48
  let main_v50 : FVec F S131072x16x8 .f32 := mulf main_v44 main_v49
  let main_cst_11 : FVec F S_ .f32 := constant S_ .f32 0x3A83126F#32
  let main_v51 : FVec F S131072x16x8 .f32 := broadcastInDim S131072x16x8 ![] bcast_S_S131072x16x8 main_cst_11
  let main_v52 : FVec F S131072x16x8 .f32 := addf main_v50 main_v51
  let main_cst_12 : FVec F S_ .f32 := constant S_ .f32 0x41000000#32
  let main_cst_13 : FVec F S_ .f32 := constant S_ .f32 0x3A83126F#32
  let main_v53 : FVec F S_ .f32 := mulf main_cst_12 main_cst_13
  let main_cst_14 : FVec F S_ .f32 := constant S_ .f32 0x3F800000#32
  let main_v54 : FVec F S_ .f32 := subf main_cst_14 main_v53
  let main_v55 : FVec F S131072x16x8 .f32 := broadcastInDim S131072x16x8 ![] bcast_S_S131072x16x8 main_v54
  fn_part3 (F := F) main_arg0 main_v42 main_v46 main_v52 main_v55

def fn_part1 {F : FTy → Type} [FloatOps F] (main_arg0 : FVec F S131072x16 .f32) (main_v14 : FVec F S131072x16x25 .f32) (main_v21 : FVec F S131072x16x8 .f32) : IVec S131072x16 1 × IVec S131072 1 :=
  let main_v22 : FVec F S131072x16x8 .f32 := Host.exp main_v21
  let main_cst_1 : FVec F S_ .f32 := constant S_ .f32 0x00000000#32
  let main_v23 : FVec F S131072x16 .f32 := (fun x v => Host.reduceAdd x v reducesTo_S131072x16x8_S131072x16_d2 h_S_) main_v22 main_cst_1
  let main_v24 : FVec F S131072x16x1 .f32 := broadcastInDim S131072x16x1 ![0, 1] bcast_S131072x16_S131072x16x1_0_1 main_v23
  let main_v25 : FVec F S131072x16x8 .f32 := broadcastInDim S131072x16x8 ![0, 1, 2] bcast_S131072x16x1_S131072x16x8_0_1_2 main_v24
  let main_v26 : FVec F S131072x16x8 .f32 := Host.divf main_v22 main_v25
  let main_v27 : FVec F S131072x16x8 .f32 := (extractStridedSlice S131072x16x8 ![0, 0, 8] · slices_S131072x16x25_S131072x16x8_0_0_8) main_v14
  let main_cst_2 : FVec F S_ .f32 := constant S_ .f32 0xFF800000#32
  let main_v28 : FVec F S131072x16 .f32 := (fun x v => Host.reduce FloatOps.maximumf x v reducesTo_S131072x16x8_S131072x16_d2 h_S_) main_v27 main_cst_2
  let main_cst_3 : FVec F S_ .f32 := constant S_ .f32 0xFF800000#32
  let main_v29 : FVec F S131072x16 .f32 := broadcastInDim S131072x16 ![] bcast_S_S131072x16 main_cst_3
  let main_v30 : FVec F S131072x16 .f32 := maximumf main_v29 main_v28
  let main_v31 : FVec F S131072x16x1 .f32 := broadcastInDim S131072x16x1 ![0, 1] bcast_S131072x16_S131072x16x1_0_1 main_v30
  let main_v32 : FVec F S131072x16x8 .f32 := broadcastInDim S131072x16x8 ![0, 1, 2] bcast_S131072x16x1_S131072x16x8_0_1_2 main_v31
  let main_v33 : FVec F S131072x16x8 .f32 := subf main_v27 main_v32
  let main_v34 : FVec F S131072x16x8 .f32 := Host.exp main_v33
  let main_cst_4 : FVec F S_ .f32 := constant S_ .f32 0x00000000#32
  let main_v35 : FVec F S131072x16 .f32 := (fun x v => Host.reduceAdd x v reducesTo_S131072x16x8_S131072x16_d2 h_S_) main_v34 main_cst_4
  let main_v36 : FVec F S131072x16x1 .f32 := broadcastInDim S131072x16x1 ![0, 1] bcast_S131072x16_S131072x16x1_0_1 main_v35
  let main_v37 : FVec F S131072x16x8 .f32 := broadcastInDim S131072x16x8 ![0, 1, 2] bcast_S131072x16x1_S131072x16x8_0_1_2 main_v36
  let main_v38 : FVec F S131072x16x8 .f32 := Host.divf main_v34 main_v37
  let main_v39 : FVec F S131072x16x9 .f32 := (extractStridedSlice S131072x16x9 ![0, 0, 16] · slices_S131072x16x25_S131072x16x9_0_0_16) main_v14
  let main_v40 : FVec F S131072x16x9 .f32 := fn_softplus (F := F) main_v39
  let main_cst_5 : FVec F S_ .f32 := constant S_ .f32 0x3A83126F#32
  fn_part2 (F := F) main_arg0 main_v26 main_v38 main_v40 main_cst_5

def fn {F : FTy → Type} [FloatOps F] (main_arg0 : FVec F S131072x16 .f32) (main_arg1 : FVec F S16x64 .f32) (main_arg2 : FVec F S64 .f32) (main_arg3 : FVec F S64x128 .f32) (main_arg4 : FVec F S128 .f32) (main_arg5 : FVec F S128x400 .f32) (main_arg6 : FVec F S400 .f32) : IVec S131072x16 1 × IVec S131072 1 :=
  let main_v0 : FVec F S131072x64 .f32 := (fun l r => Host.dotGeneral dot_S131072x16_S16x64_S131072x64_1_0_0_1_n_n none l r) main_arg0 main_arg1
  let main_v1 : FVec F S1x64 .f32 := broadcastInDim S1x64 ![1] bcast_S64_S1x64_1 main_arg2
  let main_v2 : FVec F S131072x64 .f32 := broadcastInDim S131072x64 ![0, 1] bcast_S1x64_S131072x64_0_1 main_v1
  let main_v3 : FVec F S131072x64 .f32 := addf main_v0 main_v2
  let main_v4 : FVec F S131072x64 .f32 := fn_relu (F := F) main_v3
  let main_v5 : FVec F S131072x128 .f32 := (fun l r => Host.dotGeneral dot_S131072x64_S64x128_S131072x128_1_0_0_1_n_n none l r) main_v4 main_arg3
  let main_v6 : FVec F S1x128 .f32 := broadcastInDim S1x128 ![1] bcast_S128_S1x128_1 main_arg4
  let main_v7 : FVec F S131072x128 .f32 := broadcastInDim S131072x128 ![0, 1] bcast_S1x128_S131072x128_0_1 main_v6
  let main_v8 : FVec F S131072x128 .f32 := addf main_v5 main_v7
  let main_v9 : FVec F S131072x128 .f32 := fn_relu_0 (F := F) main_v8
  let main_v10 : FVec F S131072x400 .f32 := (fun l r => Host.dotGeneral dot_S131072x128_S128x400_S131072x400_1_0_0_1_n_n none l r) main_v9 main_arg5
  let main_v11 : FVec F S1x400 .f32 := broadcastInDim S1x400 ![1] bcast_S400_S1x400_1 main_arg6
  let main_v12 : FVec F S131072x400 .f32 := broadcastInDim S131072x400 ![0, 1] bcast_S1x400_S131072x400_0_1 main_v11
  let main_v13 : FVec F S131072x400 .f32 := addf main_v10 main_v12
  let main_v14 : FVec F S131072x16x25 .f32 := shapeCast S131072x16x25 main_v13 shapeCasts_S131072x400_S131072x16x25
  let main_v15 : FVec F S131072x16x8 .f32 := (extractStridedSlice S131072x16x8 ![0, 0, 0] · slices_S131072x16x25_S131072x16x8_0_0_0) main_v14
  let main_cst : FVec F S_ .f32 := constant S_ .f32 0xFF800000#32
  let main_v16 : FVec F S131072x16 .f32 := (fun x v => Host.reduce FloatOps.maximumf x v reducesTo_S131072x16x8_S131072x16_d2 h_S_) main_v15 main_cst
  let main_cst_0 : FVec F S_ .f32 := constant S_ .f32 0xFF800000#32
  let main_v17 : FVec F S131072x16 .f32 := broadcastInDim S131072x16 ![] bcast_S_S131072x16 main_cst_0
  let main_v18 : FVec F S131072x16 .f32 := maximumf main_v17 main_v16
  let main_v19 : FVec F S131072x16x1 .f32 := broadcastInDim S131072x16x1 ![0, 1] bcast_S131072x16_S131072x16x1_0_1 main_v18
  let main_v20 : FVec F S131072x16x8 .f32 := broadcastInDim S131072x16x8 ![0, 1, 2] bcast_S131072x16x1_S131072x16x8_0_1_2 main_v19
  let main_v21 : FVec F S131072x16x8 .f32 := subf main_v15 main_v20
  fn_part1 (F := F) main_arg0 main_v14 main_v21
-- ==== Pre_finite.lean ====
abbrev S131072x16 : Shape := ⟨2, ![131072, 16]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x400 : Shape := ⟨2, ![128, 400]⟩
abbrev S400 : Shape := ⟨1, ![400]⟩
abbrev S_ : Shape := ⟨0, ![]⟩

class Facts : Prop where
  bcast_S_S131072x16 : S_.BroadcastsInDim S131072x16 (![] : Fin 0 → Fin S131072x16.rank)
  bcast_S_S16x64 : S_.BroadcastsInDim S16x64 (![] : Fin 0 → Fin S16x64.rank)
  bcast_S_S64 : S_.BroadcastsInDim S64 (![] : Fin 0 → Fin S64.rank)
  bcast_S_S64x128 : S_.BroadcastsInDim S64x128 (![] : Fin 0 → Fin S64x128.rank)
  bcast_S_S128 : S_.BroadcastsInDim S128 (![] : Fin 0 → Fin S128.rank)
  bcast_S_S128x400 : S_.BroadcastsInDim S128x400 (![] : Fin 0 → Fin S128x400.rank)
  bcast_S_S400 : S_.BroadcastsInDim S400 (![] : Fin 0 → Fin S400.rank)

variable [Facts]

def fn_part1 {F : FTy → Type} [FloatOps F] (main_arg6 : FVec F S400 .f32) (main_v2 : IVec S131072x16 1) (main_v5 : IVec S16x64 1) (main_v8 : IVec S64 1) (main_v11 : IVec S64x128 1) (main_v14 : IVec S128 1) (main_v17 : IVec S128x400 1) : IVec S131072x16 1 × IVec S16x64 1 × IVec S64 1 × IVec S64x128 1 × IVec S128 1 × IVec S128x400 1 × IVec S400 1 :=
  let main_v18 : FVec F S400 .f32 := Host.absf main_arg6
  let main_cst_5 : FVec F S_ .f32 := constant S_ .f32 0x7F800000#32
  let main_v19 : FVec F S400 .f32 := broadcastInDim S400 ![] bcast_S_S400 main_cst_5
  let main_v20 : IVec S400 1 := cmpf .olt main_v18 main_v19
  (main_v2, main_v5, main_v8, main_v11, main_v14, main_v17, main_v20)

def fn {F : FTy → Type} [FloatOps F] (main_arg0 : FVec F S131072x16 .f32) (main_arg1 : FVec F S16x64 .f32) (main_arg2 : FVec F S64 .f32) (main_arg3 : FVec F S64x128 .f32) (main_arg4 : FVec F S128 .f32) (main_arg5 : FVec F S128x400 .f32) (main_arg6 : FVec F S400 .f32) : IVec S131072x16 1 × IVec S16x64 1 × IVec S64 1 × IVec S64x128 1 × IVec S128 1 × IVec S128x400 1 × IVec S400 1 :=
  let main_v0 : FVec F S131072x16 .f32 := Host.absf main_arg0
  let main_cst : FVec F S_ .f32 := constant S_ .f32 0x7F800000#32
  let main_v1 : FVec F S131072x16 .f32 := broadcastInDim S131072x16 ![] bcast_S_S131072x16 main_cst
  let main_v2 : IVec S131072x16 1 := cmpf .olt main_v0 main_v1
  let main_v3 : FVec F S16x64 .f32 := Host.absf main_arg1
  let main_cst_0 : FVec F S_ .f32 := constant S_ .f32 0x7F800000#32
  let main_v4 : FVec F S16x64 .f32 := broadcastInDim S16x64 ![] bcast_S_S16x64 main_cst_0
  let main_v5 : IVec S16x64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128x400 .f32 := Host.absf main_arg5
  let main_cst_4 : FVec F S_ .f32 := constant S_ .f32 0x7F800000#32
  let main_v16 : FVec F S128x400 .f32 := broadcastInDim S128x400 ![] bcast_S_S128x400 main_cst_4
  let main_v17 : IVec S128x400 1 := cmpf .olt main_v15 main_v16
  fn_part1 (F := F) main_arg6 main_v2 main_v5 main_v8 main_v11 main_v14 main_v17
-- ==== Kernel.lean ====
abbrev S131072x16 : Shape := ⟨2, ![131072, 16]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x400 : Shape := ⟨2, ![128, 400]⟩
abbrev S400 : Shape := ⟨1, ![400]⟩
abbrev S512 : Shape := ⟨1, ![512]⟩
abbrev S128x128 : Shape := ⟨2, ![128, 128]⟩
abbrev S16x128 : Shape := ⟨2, ![16, 128]⟩
abbrev S128x16 : Shape := ⟨2, ![128, 16]⟩
abbrev S128x1 : Shape := ⟨2, ![128, 1]⟩
abbrev S16x131072 : Shape := ⟨2, ![16, 131072]⟩
abbrev S64x16 : Shape := ⟨2, ![64, 16]⟩
abbrev S128x64 : Shape := ⟨2, ![128, 64]⟩
abbrev S400x128 : Shape := ⟨2, ![400, 128]⟩
abbrev S_ : Shape := ⟨0, ![]⟩
abbrev S512x1 : Shape := ⟨2, ![512, 1]⟩
abbrev S512x128 : Shape := ⟨2, ![512, 128]⟩
abbrev S64x1 : Shape := ⟨2, ![64, 1]⟩
abbrev S1x131072 : Shape := ⟨2, ![1, 131072]⟩
abbrev S131072 : Shape := ⟨1, ![131072]⟩
abbrev S16x2048 : Shape := ⟨2, ![16, 2048]⟩
abbrev S1x2048 : Shape := ⟨2, ![1, 2048]⟩
abbrev S64x2048 : Shape := ⟨2, ![64, 2048]⟩
abbrev S128x2048 : Shape := ⟨2, ![128, 2048]⟩
abbrev S512x2048 : Shape := ⟨2, ![512, 2048]⟩
abbrev S16x8x2048 : Shape := ⟨3, ![16, 8, 2048]⟩
abbrev S16x1x2048 : Shape := ⟨3, ![16, 1, 2048]⟩
abbrev S2048 : Shape := ⟨1, ![2048]⟩

abbrev nBuf : Space → Nat
  | .hbm => 41
  | .vmem => 16
  | .smem => 0
  | _ => 0

abbrev bufTy : (tb : Table) → Fin (tcTables nBuf tb) → BufTy
  | .hbm, ⟨0, _⟩ => ⟨S131072x16, .f32⟩
  | .hbm, ⟨1, _⟩ => ⟨S16x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S128x400, .f32⟩
  | .hbm, ⟨6, _⟩ => ⟨S400, .f32⟩
  | .hbm, ⟨7, _⟩ => ⟨S512, .i32⟩
  | .hbm, ⟨8, _⟩ => ⟨S128x128, .f32⟩
  | .hbm, ⟨9, _⟩ => ⟨S16x128, .f32⟩
  | .hbm, ⟨10, _⟩ => ⟨S128x16, .f32⟩
  | .hbm, ⟨11, _⟩ => ⟨S128x1, .f32⟩
  | .hbm, ⟨12, _⟩ => ⟨S16x131072, .f32⟩
  | .hbm, ⟨13, _⟩ => ⟨S64x16, .f32⟩
  | .hbm, ⟨14, _⟩ => ⟨S128x64, .f32⟩
  | .hbm, ⟨15, _⟩ => ⟨S400x128, .f32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S512x128, .f32⟩
  | .hbm, ⟨25, _⟩ => ⟨S64x1, .f32⟩
  | .hbm, ⟨26, _⟩ => ⟨S128x1, .f32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S512x1, .i32⟩
  | .hbm, ⟨35, _⟩ => ⟨S512, .f32⟩
  | .hbm, ⟨36, _⟩ => ⟨S512x1, .f32⟩
  | .hbm, ⟨37, _⟩ => ⟨S16x131072, .f32⟩
  | .hbm, ⟨38, _⟩ => ⟨S1x131072, .f32⟩
  | .hbm, ⟨39, _⟩ => ⟨S131072x16, .f32⟩
  | .hbm, ⟨40, _⟩ => ⟨S131072, .f32⟩
  | .local _ .vmem, ⟨0, _⟩ => ⟨S16x2048, .f32⟩
  | .local _ .vmem, ⟨1, _⟩ => ⟨S16x2048, .f32⟩
  | .local _ .vmem, ⟨2, _⟩ => ⟨S64x16, .f32⟩
  | .local _ .vmem, ⟨3, _⟩ => ⟨S64x1, .f32⟩
  | .local _ .vmem, ⟨4, _⟩ => ⟨S128x64, .f32⟩
  | .local _ .vmem, ⟨5, _⟩ => ⟨S128x1, .f32⟩
  | .local _ .vmem, ⟨6, _⟩ => ⟨S512x128, .f32⟩
  | .local _ .vmem, ⟨7, _⟩ => ⟨S512x1, .f32⟩
  | .local _ .vmem, ⟨8, _⟩ => ⟨S128x128, .f32⟩
  | .local _ .vmem, ⟨9, _⟩ => ⟨S16x128, .f32⟩
  | .local _ .vmem, ⟨10, _⟩ => ⟨S128x16, .f32⟩
  | .local _ .vmem, ⟨11, _⟩ => ⟨S128x1, .f32⟩
  | .local _ .vmem, ⟨12, _⟩ => ⟨S16x2048, .f32⟩
  | .local _ .vmem, ⟨13, _⟩ => ⟨S16x2048, .f32⟩
  | .local _ .vmem, ⟨14, _⟩ => ⟨S1x2048, .f32⟩
  | .local _ .vmem, ⟨15, _⟩ => ⟨S1x2048, .f32⟩
  | _, _ => ⟨S131072x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_cst : Ref sig .tc := ⟨.hbm, 8, rfl⟩
abbrev main_call0_cst_0 : Ref sig .tc := ⟨.hbm, 9, rfl⟩
abbrev main_call0_cst_1 : Ref sig .tc := ⟨.hbm, 10, rfl⟩
abbrev main_call0_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_c_3 : Ref sig .tc := ⟨.hbm, 16, rfl⟩
abbrev main_call0_v4 : Ref sig .tc := ⟨.hbm, 17, rfl⟩
abbrev main_call0_v5 : Ref sig .tc := ⟨.hbm, 18, rfl⟩
abbrev main_call0_c_4 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_c_5 : Ref sig .tc := ⟨.hbm, 27, rfl⟩
abbrev main_call0_v13 : Ref sig .tc := ⟨.hbm, 28, rfl⟩
abbrev main_call0_v14 : Ref sig .tc := ⟨.hbm, 29, rfl⟩
abbrev main_call0_c_6 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21_0 : Ref sig .tc := ⟨.hbm, 37, rfl⟩
abbrev main_call0_v21_1 : Ref sig .tc := ⟨.hbm, 38, rfl⟩
abbrev main_v0_0 : Ref sig .tc := ⟨.hbm, 39, rfl⟩
abbrev main_v0_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "scale" => some ((3195455667 / 536870912 : ℝ) : EReal)
  | _ => none
-- ==== ReferenceIdeal.lean ====
abbrev S131072x16 : Shape := ⟨2, ![131072, 16]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x400 : Shape := ⟨2, ![128, 400]⟩
abbrev S400 : Shape := ⟨1, ![400]⟩
abbrev S131072x64 : Shape := ⟨2, ![131072, 64]⟩
abbrev S1x64 : Shape := ⟨2, ![1, 64]⟩
abbrev S_ : Shape := ⟨0, ![]⟩
abbrev S131072x128 : Shape := ⟨2, ![131072, 128]⟩
abbrev S1x128 : Shape := ⟨2, ![1, 128]⟩
abbrev S131072x400 : Shape := ⟨2, ![131072, 400]⟩
abbrev S1x400 : Shape := ⟨2, ![1, 400]⟩
abbrev S131072x16x25 : Shape := ⟨3, ![131072, 16, 25]⟩
abbrev S131072x16x8 : Shape := ⟨3, ![131072, 16, 8]⟩
abbrev S131072x16x1 : Shape := ⟨3, ![131072, 16, 1]⟩
abbrev S131072x16x9 : Shape := ⟨3, ![131072, 16, 9]⟩
abbrev S131072x16x1x1 : Shape := ⟨4, ![131072, 16, 1, 1]⟩
abbrev S131072 : Shape := ⟨1, ![131072]⟩

abbrev nBuf : Space → Nat
  | .hbm => 263
  | .vmem => 0
  | .smem => 0
  | _ => 0

abbrev hbmTy0_0 (i : Nat) : BufTy := match i % 128 with
  | 0 => ⟨S131072x16, .f32⟩
  | 1 => ⟨S16x64, .f32⟩
  | 2 => ⟨S64, .f32⟩
  | 3 => ⟨S64x128, .f32⟩
  | 4 => ⟨S128, .f32⟩
  | 5 => ⟨S128x400, .f32⟩
  | 6 => ⟨S400, .f32⟩
  | 7 => ⟨S131072x64, .f32⟩
  | 8 => ⟨S1x64, .f32⟩
  | 9 => ⟨S131072x64, .f32⟩
  | 10 => ⟨S131072x64, .f32⟩
  | 11 => ⟨S_, .f32⟩
  | 12 => ⟨S131072x64, .f32⟩
  | 13 => ⟨S131072x64, .f32⟩
  | 14 => ⟨S131072x128, .f32⟩
  | 15 => ⟨S1x128, .f32⟩
  | 16 => ⟨S131072x128, .f32⟩
  | 17 => ⟨S131072x128, .f32⟩
  | 18 => ⟨S_, .f32⟩
  | 19 => ⟨S131072x128, .f32⟩
  | 20 => ⟨S131072x128, .f32⟩
  | 21 => ⟨S131072x400, .f32⟩
  | 22 => ⟨S1x400, .f32⟩
  | 23 => ⟨S131072x400, .f32⟩
  | 24 => ⟨S131072x400, .f32⟩
  | 25 => ⟨S131072x16x25, .f32⟩
  | 26 => ⟨S131072x16x8, .f32⟩
  | 27 => ⟨S_, .f32⟩
  | 28 => ⟨S131072x16, .f32⟩
  | 29 => ⟨S_, .f32⟩
  | 30 => ⟨S131072x16, .f32⟩
  | 31 => ⟨S131072x16, .f32⟩
  | 32 => ⟨S131072x16x1, .f32⟩
  | 33 => ⟨S131072x16x8, .f32⟩
  | 34 => ⟨S131072x16x8, .f32⟩
  | 35 => ⟨S131072x16x8, .f32⟩
  | 36 => ⟨S_, .f32⟩
  | 37 => ⟨S131072x16, .f32⟩
  | 38 => ⟨S131072x16x1, .f32⟩
  | 39 => ⟨S131072x16x8, .f32⟩
  | 40 => ⟨S131072x16x8, .f32⟩
  | 41 => ⟨S131072x16x8, .f32⟩
  | 42 => ⟨S_, .f32⟩
  | 43 => ⟨S131072x16, .f32⟩
  | 44 => ⟨S_, .f32⟩
  | 45 => ⟨S131072x16, .f32⟩
  | 46 => ⟨S131072x16, .f32⟩
  | 47 => ⟨S131072x16x1, .f32⟩
  | 48 => ⟨S131072x16x8, .f32⟩
  | 49 => ⟨S131072x16x8, .f32⟩
  | 50 => ⟨S131072x16x8, .f32⟩
  | 51 => ⟨S_, .f32⟩
  | 52 => ⟨S131072x16, .f32⟩
  | 53 => ⟨S131072x16x1, .f32⟩
  | 54 => ⟨S131072x16x8, .f32⟩
  | 55 => ⟨S131072x16x8, .f32⟩
  | 56 => ⟨S131072x16x9, .f32⟩
  | 57 => ⟨S_, .f32⟩
  | 58 => ⟨S131072x16x9, .f32⟩
  | 59 => ⟨S131072x16x9, .f32⟩
  | 60 => ⟨S131072x16x9, .f32⟩
  | 61 => ⟨S131072x16x9, .f32⟩
  | 62 => ⟨S131072x16x9, .i1⟩
  | 63 => ⟨S131072x16x9, .f32⟩
  | 64 => ⟨S131072x16x9, .f32⟩
  | 65 => ⟨S131072x16x9, .f32⟩
  | 66 => ⟨S131072x16x9, .f32⟩
  | 67 => ⟨S131072x16x9, .f32⟩
  | 68 => ⟨S131072x16x9, .f32⟩
  | 69 => ⟨S131072x16x9, .f32⟩
  | 70 => ⟨S131072x16x9, .f32⟩
  | 71 => ⟨S_, .f32⟩
  | 72 => ⟨S131072x16x9, .f32⟩
  | 73 => ⟨S131072x16x9, .f32⟩
  | 74 => ⟨S_, .f32⟩
  | 75 => ⟨S131072x16x8, .f32⟩
  | 76 => ⟨S131072x16x8, .f32⟩
  | 77 => ⟨S_, .f32⟩
  | 78 => ⟨S131072x16x8, .f32⟩
  | 79 => ⟨S131072x16x8, .f32⟩
  | 80 => ⟨S_, .f32⟩
  | 81 => ⟨S_, .f32⟩
  | 82 => ⟨S_, .f32⟩
  | 83 => ⟨S_, .f32⟩
  | 84 => ⟨S_, .f32⟩
  | 85 => ⟨S131072x16x8, .f32⟩
  | 86 => ⟨S131072x16x8, .f32⟩
  | 87 => ⟨S_, .f32⟩
  | 88 => ⟨S131072x16x8, .f32⟩
  | 89 => ⟨S131072x16x8, .f32⟩
  | 90 => ⟨S_, .f32⟩
  | 91 => ⟨S_, .f32⟩
  | 92 => ⟨S_, .f32⟩
  | 93 => ⟨S_, .f32⟩
  | 94 => ⟨S_, .f32⟩
  | 95 => ⟨S131072x16x8, .f32⟩
  | 96 => ⟨S131072x16x8, .f32⟩
  | 97 => ⟨S_, .f32⟩
  | 98 => ⟨S131072x16x8, .f32⟩
  | 99 => ⟨S131072x16x8, .f32⟩
  | 100 => ⟨S_, .f32⟩
  | 101 => ⟨S131072x16x1, .f32⟩
  | 102 => ⟨S_, .f32⟩
  | 103 => ⟨S_, .f32⟩
  | 104 => ⟨S131072x16x8, .f32⟩
  | 105 => ⟨S131072x16x9, .f32⟩
  | 106 => ⟨S_, .f32⟩
  | 107 => ⟨S131072x16x9, .f32⟩
  | 108 => ⟨S131072x16x9, .f32⟩
  | 109 => ⟨S_, .f32⟩
  | 110 => ⟨S_, .f32⟩
  | 111 => ⟨S131072x16x8, .f32⟩
  | 112 => ⟨S131072x16x9, .f32⟩
  | 113 => ⟨S_, .f32⟩
  | 114 => ⟨S131072x16x9, .f32⟩
  | 115 => ⟨S131072x16x9, .f32⟩
  | 116 => ⟨S_, .f32⟩
  | 117 => ⟨S131072x16, .f32⟩
  | 118 => ⟨S131072x16, .i1⟩
  | 119 => ⟨S_, .f32⟩
  | 120 => ⟨S131072x16, .f32⟩
  | 121 => ⟨S131072x16, .i1⟩
  | 122 => ⟨S131072x16, .i1⟩
  | 123 => ⟨S_, .f32⟩
  | 124 => ⟨S_, .f32⟩
  | 125 => ⟨S131072x16, .f32⟩
  | 126 => ⟨S131072x16, .f32⟩
  | 127 => ⟨S131072x16x1, .f32⟩
  | _ => ⟨S131072x16, .f32⟩

abbrev hbmTy0_1 (i : Nat) : BufTy := match i % 128 with
  | 0 => ⟨S131072x16x9, .f32⟩
  | 1 => ⟨S131072x16x9, .i1⟩
  | 2 => ⟨S131072x16x9, .i32⟩
  | 3 => ⟨S_, .i32⟩
  | 4 => ⟨S131072x16, .i32⟩
  | 5 => ⟨S_, .i32⟩
  | 6 => ⟨S131072x16, .i32⟩
  | 7 => ⟨S131072x16, .i32⟩
  | 8 => ⟨S_, .i32⟩
  | 9 => ⟨S_, .i32⟩
  | 10 => ⟨S_, .i32⟩
  | 11 => ⟨S131072x16, .i32⟩
  | 12 => ⟨S131072x16, .i32⟩
  | 13 => ⟨S_, .i32⟩
  | 14 => ⟨S131072x16, .i32⟩
  | 15 => ⟨S131072x16, .i32⟩
  | 16 => ⟨S131072x16x1, .i32⟩
  | 17 => ⟨S_, .i32⟩
  | 18 => ⟨S131072x16x1, .i32⟩
  | 19 => ⟨S131072x16x1, .i1⟩
  | 20 => ⟨S_, .i32⟩
  | 21 => ⟨S131072x16x1, .i32⟩
  | 22 => ⟨S131072x16x1, .i32⟩
  | 23 => ⟨S131072x16x1, .i32⟩
  | 24 => ⟨S131072x16x1x1, .i32⟩
  | 25 => ⟨S131072x16x1, .f32⟩
  | 26 => ⟨S131072x16, .f32⟩
  | 27 => ⟨S131072x16x1, .i32⟩
  | 28 => ⟨S_, .i32⟩
  | 29 => ⟨S131072x16x1, .i32⟩
  | 30 => ⟨S131072x16x1, .i1⟩
  | 31 => ⟨S_, .i32⟩
  | 32 => ⟨S131072x16x1, .i32⟩
  | 33 => ⟨S131072x16x1, .i32⟩
  | 34 => ⟨S131072x16x1, .i32⟩
  | 35 => ⟨S131072x16x1x1, .i32⟩
  | 36 => ⟨S131072x16x1, .f32⟩
  | 37 => ⟨S131072x16, .f32⟩
  | 38 => ⟨S131072x16x1, .i32⟩
  | 39 => ⟨S_, .i32⟩
  | 40 => ⟨S131072x16x1, .i32⟩
  | 41 => ⟨S131072x16x1, .i1⟩
  | 42 => ⟨S_, .i32⟩
  | 43 => ⟨S131072x16x1, .i32⟩
  | 44 => ⟨S131072x16x1, .i32⟩
  | 45 => ⟨S131072x16x1, .i32⟩
  | 46 => ⟨S131072x16x1x1, .i32⟩
  | 47 => ⟨S131072x16x1, .f32⟩
  | 48 => ⟨S131072x16, .f32⟩
  | 49 => ⟨S131072x16x1, .i32⟩
  | 50 => ⟨S_, .i32⟩
  | 51 => ⟨S131072x16x1, .i32⟩
  | 52 => ⟨S131072x16x1, .i1⟩
  | 53 => ⟨S_, .i32⟩
  | 54 => ⟨S131072x16x1, .i32⟩
  | 55 => ⟨S131072x16x1, .i32⟩
  | 56 => ⟨S131072x16x1, .i32⟩
  | 57 => ⟨S131072x16x1x1, .i32⟩
  | 58 => ⟨S131072x16x1, .f32⟩
  | 59 => ⟨S131072x16, .f32⟩
  | 60 => ⟨S131072x16x1, .i32⟩
  | 61 => ⟨S_, .i32⟩
  | 62 => ⟨S131072x16x1, .i32⟩
  | 63 => ⟨S131072x16x1, .i1⟩
  | 64 => ⟨S_, .i32⟩
  | 65 => ⟨S131072x16x1, .i32⟩
  | 66 => ⟨S131072x16x1, .i32⟩
  | 67 => ⟨S131072x16x1, .i32⟩
  | 68 => ⟨S131072x16x1x1, .i32⟩
  | 69 => ⟨S131072x16x1, .f32⟩
  | 70 => ⟨S131072x16, .f32⟩
  | 71 => ⟨S_, .i32⟩
  | 72 => ⟨S131072x16, .i32⟩
  | 73 => ⟨S131072x16, .i32⟩
  | 74 => ⟨S131072x16x1, .i32⟩
  | 75 => ⟨S_, .i32⟩
  | 76 => ⟨S131072x16x1, .i32⟩
  | 77 => ⟨S131072x16x1, .i1⟩
  | 78 => ⟨S_, .i32⟩
  | 79 => ⟨S131072x16x1, .i32⟩
  | 80 => ⟨S131072x16x1, .i32⟩
  | 81 => ⟨S131072x16x1, .i32⟩
  | 82 => ⟨S131072x16x1x1, .i32⟩
  | 83 => ⟨S131072x16x1, .f32⟩
  | 84 => ⟨S131072x16, .f32⟩
  | 85 => ⟨S131072x16, .f32⟩
  | 86 => ⟨S131072x16, .f32⟩
  | 87 => ⟨S_, .f32⟩
  | 88 => ⟨S131072x16, .f32⟩
  | 89 => ⟨S131072x16, .f32⟩
  | 90 => ⟨S131072x16, .f32⟩
  | 91 => ⟨S131072x16, .f32⟩
  | 92 => ⟨S_, .f32⟩
  | 93 => ⟨S131072x16, .f32⟩
  | 94 => ⟨S131072x16, .f32⟩
  | 95 => ⟨S131072x16, .f32⟩
  | 96 => ⟨S131072x16, .f32⟩
  | 97 => ⟨S131072x16, .f32⟩
  | 98 => ⟨S131072x16, .f32⟩
  | 99 => ⟨S131072x16, .f32⟩
  | 100 => ⟨S131072x16, .f32⟩
  | 101 => ⟨S131072x16, .f32⟩
  | 102 => ⟨S131072x16, .f32⟩
  | 103 => ⟨S131072x16, .f32⟩
  | 104 => ⟨S131072x16, .f32⟩
  | 105 => ⟨S131072x16, .f32⟩
  | 106 => ⟨S131072x16, .f32⟩
  | 107 => ⟨S131072x16, .f32⟩
  | 108 => ⟨S131072x16, .f32⟩
  | 109 => ⟨S131072x16, .f32⟩
  | 110 => ⟨S131072x16, .f32⟩
  | 111 => ⟨S131072x16, .f32⟩
  | 112 => ⟨S_, .f32⟩
  | 113 => ⟨S131072x16, .f32⟩
  | 114 => ⟨S131072x16, .f32⟩
  | 115 => ⟨S131072x16, .f32⟩
  | 116 => ⟨S131072x16, .f32⟩
  | 117 => ⟨S131072x16, .f32⟩
  | 118 => ⟨S131072x16, .f32⟩
  | 119 => ⟨S131072x16, .f32⟩
  | 120 => ⟨S131072x16, .f32⟩
  | 121 => ⟨S131072x16, .f32⟩
  | 122 => ⟨S131072x16, .f32⟩
  | 123 => ⟨S131072x16, .f32⟩
  | 124 => ⟨S_, .f32⟩
  | 125 => ⟨S131072x16, .f32⟩
  | 126 => ⟨S131072x16, .f32⟩
  | 127 => ⟨S131072x16, .f32⟩
  | _ => ⟨S131072x16, .f32⟩

abbrev hbmTy0_2 (i : Nat) : BufTy := match i % 128 with
  | 0 => ⟨S131072x16, .f32⟩
  | 1 => ⟨S_, .f32⟩
  | 2 => ⟨S_, .f32⟩
  | 3 => ⟨S131072x16, .f32⟩
  | 4 => ⟨S131072x16, .f32⟩
  | 5 => ⟨S_, .f32⟩
  | 6 => ⟨S131072, .f32⟩
  | _ => ⟨S131072x16, .f32⟩

abbrev hbmTy (i : Nat) : BufTy := match i / 128 with
  | 0 => hbmTy0_0 i
  | 1 => hbmTy0_1 i
  | 2 => hbmTy0_2 i
  | _ => ⟨S131072x16, .f32⟩

abbrev bufTy : (tb : Table) → Fin (tcTables nBuf tb) → BufTy
  | .hbm, ⟨i, _⟩ => hbmTy i
  | _, _ => ⟨S131072x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_v40 : Ref sig .tc := ⟨.hbm, 70, rfl⟩
abbrev main_cst_5 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_cst_7 : Ref sig .tc := ⟨.hbm, 77, rfl⟩
abbrev main_v45 : Ref sig .tc := ⟨.hbm, 78, rfl⟩
abbrev main_v46 : Ref sig .tc := ⟨.hbm, 79, rfl⟩
abbrev main_cst_8 : Ref sig .tc := ⟨.hbm, 80, rfl⟩
abbrev main_cst_9 : Ref sig .tc := ⟨.hbm, 81, rfl⟩
abbrev main_v47 : Ref sig .tc := ⟨.hbm, 82, rfl⟩
abbrev main_cst_10 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_11 : Ref sig .tc := ⟨.hbm, 87, rfl⟩
abbrev main_v51 : Ref sig .tc := ⟨.hbm, 88, rfl⟩
abbrev main_v52 : Ref sig .tc := ⟨.hbm, 89, rfl⟩
abbrev main_cst_12 : Ref sig .tc := ⟨.hbm, 90, rfl⟩
abbrev main_cst_13 : Ref sig .tc := ⟨.hbm, 91, rfl⟩
abbrev main_v53 : Ref sig .tc := ⟨.hbm, 92, rfl⟩
abbrev main_cst_14 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_15 : Ref sig .tc := ⟨.hbm, 97, rfl⟩
abbrev main_v57 : Ref sig .tc := ⟨.hbm, 98, rfl⟩
abbrev main_v58 : Ref sig .tc := ⟨.hbm, 99, rfl⟩
abbrev main_cst_16 : Ref sig .tc := ⟨.hbm, 100, rfl⟩
abbrev main_v59 : Ref sig .tc := ⟨.hbm, 101, rfl⟩
abbrev main_call3_call0_cst : Ref sig .tc := ⟨.hbm, 102, rfl⟩
abbrev main_call3_call0_v0 : Ref sig .tc := ⟨.hbm, 103, rfl⟩
abbrev main_v60 : Ref sig .tc := ⟨.hbm, 104, rfl⟩
abbrev main_v61 : Ref sig .tc := ⟨.hbm, 105, rfl⟩
abbrev main_cst_17 : Ref sig .tc := ⟨.hbm, 106, rfl⟩
abbrev main_v62 : Ref sig .tc := ⟨.hbm, 107, rfl⟩
abbrev main_v63 : Ref sig .tc := ⟨.hbm, 108, rfl⟩
abbrev main_call4_call0_cst : Ref sig .tc := ⟨.hbm, 109, rfl⟩
abbrev main_call4_call0_v0 : Ref sig .tc := ⟨.hbm, 110, rfl⟩
abbrev main_v64 : Ref sig .tc := ⟨.hbm, 111, rfl⟩
abbrev main_v65 : Ref sig .tc := ⟨.hbm, 112, rfl⟩
abbrev main_cst_18 : Ref sig .tc := ⟨.hbm, 113, rfl⟩
abbrev main_v66 : Ref sig .tc := ⟨.hbm, 114, rfl⟩
abbrev main_v67 : Ref sig .tc := ⟨.hbm, 115, rfl⟩
abbrev main_cst_19 : Ref sig .tc := ⟨.hbm, 116, rfl⟩
abbrev main_v68 : Ref sig .tc := ⟨.hbm, 117, rfl⟩
abbrev main_v69 : Ref sig .tc := ⟨.hbm, 118, rfl⟩
abbrev main_cst_20 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_21 : Ref sig .tc := ⟨.hbm, 123, rfl⟩
abbrev main_call5_v0 : Ref sig .tc := ⟨.hbm, 124, rfl⟩
abbrev main_call5_v1 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_c : Ref sig .tc := ⟨.hbm, 131, rfl⟩
abbrev main_v78 : Ref sig .tc := ⟨.hbm, 132, rfl⟩
abbrev main_c_22 : Ref sig .tc := ⟨.hbm, 133, rfl⟩
abbrev main_v79 : Ref sig .tc := ⟨.hbm, 134, rfl⟩
abbrev main_v80 : Ref sig .tc := ⟨.hbm, 135, rfl⟩
abbrev main_c_23 : Ref sig .tc := ⟨.hbm, 136, rfl⟩
abbrev main_c_24 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_v81 : Ref sig .tc := ⟨.hbm, 143, rfl⟩
abbrev main_v82 : Ref sig .tc := ⟨.hbm, 144, rfl⟩
abbrev main_call7_c : Ref sig .tc := ⟨.hbm, 145, rfl⟩
abbrev main_call7_v0 : Ref sig .tc := ⟨.hbm, 146, rfl⟩
abbrev main_call7_v1 : Ref sig .tc := ⟨.hbm, 147, rfl⟩
abbrev main_call7_c_0 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_call7_v5 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_call8_c : Ref sig .tc := ⟨.hbm, 156, rfl⟩
abbrev main_call8_v0 : Ref sig .tc := ⟨.hbm, 157, rfl⟩
abbrev main_call8_v1 : Ref sig .tc := ⟨.hbm, 158, rfl⟩
abbrev main_call8_c_0 : Ref sig .tc := ⟨.hbm, 159, rfl⟩
abbrev main_call8_v2 : Ref sig .tc := ⟨.hbm, 160, rfl⟩
abbrev main_call8_v3 : Ref sig .tc := ⟨.hbm, 161, rfl⟩
abbrev main_call8_v4 : Ref sig .tc := ⟨.hbm, 162, rfl⟩
abbrev main_call8_v5 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_call9_c : Ref sig .tc := ⟨.hbm, 167, rfl⟩
abbrev main_call9_v0 : Ref sig .tc := ⟨.hbm, 168, rfl⟩
abbrev main_call9_v1 : Ref sig .tc := ⟨.hbm, 169, rfl⟩
abbrev main_call9_c_0 : Ref sig .tc := ⟨.hbm, 170, rfl⟩
abbrev main_call9_v2 : Ref sig .tc := ⟨.hbm, 171, rfl⟩
abbrev main_call9_v3 : Ref sig .tc := ⟨.hbm, 172, rfl⟩
abbrev main_call9_v4 : Ref sig .tc := ⟨.hbm, 173, rfl⟩
abbrev main_call9_v5 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_call10_c : Ref sig .tc := ⟨.hbm, 178, rfl⟩
abbrev main_call10_v0 : Ref sig .tc := ⟨.hbm, 179, rfl⟩
abbrev main_call10_v1 : Ref sig .tc := ⟨.hbm, 180, rfl⟩
abbrev main_call10_c_0 : Ref sig .tc := ⟨.hbm, 181, rfl⟩
abbrev main_call10_v2 : Ref sig .tc := ⟨.hbm, 182, rfl⟩
abbrev main_call10_v3 : Ref sig .tc := ⟨.hbm, 183, rfl⟩
abbrev main_call10_v4 : Ref sig .tc := ⟨.hbm, 184, rfl⟩
abbrev main_call10_v5 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_call11_c : Ref sig .tc := ⟨.hbm, 189, rfl⟩
abbrev main_call11_v0 : Ref sig .tc := ⟨.hbm, 190, rfl⟩
abbrev main_call11_v1 : Ref sig .tc := ⟨.hbm, 191, rfl⟩
abbrev main_call11_c_0 : Ref sig .tc := ⟨.hbm, 192, rfl⟩
abbrev main_call11_v2 : Ref sig .tc := ⟨.hbm, 193, rfl⟩
abbrev main_call11_v3 : Ref sig .tc := ⟨.hbm, 194, rfl⟩
abbrev main_call11_v4 : Ref sig .tc := ⟨.hbm, 195, rfl⟩
abbrev main_call11_v5 : Ref sig .tc := ⟨.hbm, 196, rfl⟩
abbrev main_v95 : Ref sig .tc := ⟨.hbm, 197, rfl⟩
abbrev main_v96 : Ref sig .tc := ⟨.hbm, 198, rfl⟩
abbrev main_c_25 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_call12_c : Ref sig .tc := ⟨.hbm, 203, rfl⟩
abbrev main_call12_v0 : Ref sig .tc := ⟨.hbm, 204, rfl⟩
abbrev main_call12_v1 : Ref sig .tc := ⟨.hbm, 205, rfl⟩
abbrev main_call12_c_0 : Ref sig .tc := ⟨.hbm, 206, rfl⟩
abbrev main_call12_v2 : Ref sig .tc := ⟨.hbm, 207, rfl⟩
abbrev main_call12_v3 : Ref sig .tc := ⟨.hbm, 208, rfl⟩
abbrev main_call12_v4 : Ref sig .tc := ⟨.hbm, 209, rfl⟩
abbrev main_call12_v5 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_cst_26 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_v107 : Ref sig .tc := ⟨.hbm, 219, rfl⟩
abbrev main_cst_27 : Ref sig .tc := ⟨.hbm, 220, rfl⟩
abbrev main_v108 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev main_v112 : Ref sig .tc := ⟨.hbm, 225, rfl⟩
abbrev main_v113 : Ref sig .tc := ⟨.hbm, 226, rfl⟩
abbrev main_v114 : Ref sig .tc := ⟨.hbm, 227, rfl⟩
abbrev main_v115 : Ref sig .tc := ⟨.hbm, 228, rfl⟩
abbrev main_v116 : Ref sig .tc := ⟨.hbm, 229, rfl⟩
abbrev main_v117 : Ref sig .tc := ⟨.hbm, 230, rfl⟩
abbrev main_v118 : Ref sig .tc := ⟨.hbm, 231, rfl⟩
abbrev main_v119 : Ref sig .tc := ⟨.hbm, 232, rfl⟩
abbrev main_v120 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_cst_28 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_cst_29 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_cst_30 : Ref sig .tc := ⟨.hbm, 257, rfl⟩
abbrev main_call14_v0 : Ref sig .tc := ⟨.hbm, 258, rfl⟩
abbrev main_call14_v1 : Ref sig .tc := ⟨.hbm, 259, rfl⟩
abbrev main_v142 : Ref sig .tc := ⟨.hbm, 260, rfl⟩
abbrev main_cst_31 : Ref sig .tc := ⟨.hbm, 261, rfl⟩
abbrev main_v143 : Ref sig .tc := ⟨.hbm, 262, rfl⟩

abbrev nD : Nat := 1
abbrev τ : Topo := Topo.v7x

variable {F : FTy → Type} [FloatOps F]
-- ==== Proof.Spec.lean ====
/- The spline over the real numbers: bin widths, knots, slopes, the bin that holds a point, and the two ways of
   writing the value and the logarithm of the derivative, with the proof that they agree. -/
module

public import Idealize.ShloMosaic.PureOps.Ideal.Laws
public import Mathlib.Tactic.FieldSimp
public import Mathlib.Tactic.Linarith
public import Mathlib.Tactic.Ring
public import Mathlib.Tactic.Positivity
public import Mathlib.Tactic.FinCases

@[expose] public section

noncomputable section

namespace Cert.Spline

open Idealize.ShloMosaic

/-- The smallest width, height and slope: the float32 number nearest to 0.001. -/
def least : ℝ := 8589935 / 8589934592

/-- The width (or height) of bin `k`: the softmax of the logits, scaled so that eight bins and their least widths
    fill the interval of length six up to rounding of the constants. -/
def width (u : Fin 8 → ℝ) (k : Fin 8) : ℝ :=
  Real.exp (u k) / (∑ j, Real.exp (u j)) * (6 * (1 - 8 * least)) + least

/-- The left end of bin `j`: minus three plus the widths of the bins before it. -/
def knot (w : Fin 8 → ℝ) (j : ℕ) : ℝ := (∑ k : Fin 8, if k.val < j then w k else 0) - 3

/-- The slope at a knot: softplus of the logit plus the least slope. -/
def slope (g : ℝ) : ℝ := max g 0 + Real.log (1 + Real.exp (-|g|)) + least

/-- The sum of the exponentials of the logits is positive. -/
theorem sum_exp_pos (u : Fin 8 → ℝ) : 0 < ∑ j, Real.exp (u j) :=
  Finset.sum_pos (fun _ _ => Real.exp_pos _) ⟨0, Finset.mem_univ _⟩

/-- Subtracting one number from all logits does not change the softmax. -/
theorem softmax_shift (u : Fin 8 → ℝ) (M : ℝ) (k : Fin 8) :
    Real.exp (u k - M) / (∑ j, Real.exp (u j - M)) = Real.exp (u k) / (∑ j, Real.exp (u j)) := by
  simp only [Real.exp_sub, ← Finset.sum_div]
  have := (sum_exp_pos u).ne'
  have := (Real.exp_pos M).ne'
  field_simp

/-- The width as one product with the scaled reciprocal of the sum. -/
theorem width_scaled (u : Fin 8 → ℝ) (M : ℝ) (k : Fin 8) :
    Real.exp (u k - M) * (3195455667 / 536870912 / (∑ j, Real.exp (u j - M))) + least = width u k := by
  rw [width, ← softmax_shift u M k]
  have h : (3195455667 / 536870912 : ℝ) = 6 * (1 - 8 * least) := by unfold least; norm_num
  rw [h]; ring

/-- The width as the softmax multiplied by six and then by one minus eight least widths. -/
theorem width_stepwise (u : Fin 8 → ℝ) (M : ℝ) (k : Fin 8) :
    Real.exp (u k - M) / (∑ j, Real.exp (u j - M)) * 6 * (1 - 8 * least) + least = width u k := by
  rw [width, ← softmax_shift u M k]; ring

/-- The smallest bin width is positive. -/
theorem least_pos : 0 < least := by unfold least; norm_num

/-- Every bin width is positive. -/
theorem width_pos (u : Fin 8 → ℝ) (k : Fin 8) : 0 < width u k := by
  have h1 : 0 < 1 - 8 * least := by unfold least; norm_num
  have h2 := least_pos
  have h3 := sum_exp_pos u
  have h4 := Real.exp_pos (u k)
  unfold width
  positivity

/-- Every slope is positive. -/
theorem slope_pos (g : ℝ) : 0 < slope g := by
  have h1 : 0 ≤ max g 0 := le_max_right _ _
  have h2 : 0 ≤ Real.log (1 + Real.exp (-|g|)) := Real.log_nonneg (by linarith [Real.exp_pos (-|g|)])
  have h3 := least_pos
  unfold slope; linarith

/-- The first knot is −3. -/
theorem knot_zero (w : Fin 8 → ℝ) : knot w 0 = -3 := by simp [knot]

/-- The next knot is one bin width further. -/
theorem knot_succ (w : Fin 8 → ℝ) (k : Fin 8) : knot w (k.val + 1) = knot w k.val + w k := by
  fin_cases k <;> simp [knot, Fin.sum_univ_eight] <;> ring

/-- Knots increase from one to the next when the widths are positive. -/
theorem knot_lt (w : Fin 8 → ℝ) (hw : ∀ k, 0 < w k) (j : ℕ) (hj : j < 8) : knot w j < knot w (j + 1) := by
  have := knot_succ w ⟨j, hj⟩
  simp only at this
  rw [this]; linarith [hw ⟨j, hj⟩]

/-- Knots are in order when the widths are positive. -/
theorem knot_le (w : Fin 8 → ℝ) (hw : ∀ k, 0 < w k) (i j : ℕ) (hij : i ≤ j) (hj : j ≤ 8) : knot w i ≤ knot w j := by
  induction j, hij using Nat.le_induction with
  | base => exact le_rfl
  | succ n hn ih => exact (ih (by omega)).trans (knot_lt w hw n (by omega)).le

/-- Bin `b` holds the point `x`; the last bin is not closed on the right. -/
def IsBin (w : Fin 8 → ℝ) (x : ℝ) (b : Fin 8) : Prop :=
  knot w b.val ≤ x ∧ (b.val < 7 → x < knot w (b.val + 1))

/-- Every point from minus three on lies in some bin. -/
theorem exists_bin (w : Fin 8 → ℝ) (x : ℝ) (hx : -3 ≤ x) : ∃ b, IsBin w x b := by
  by_contra hne
  have h : ∀ j : ℕ, j < 8 → knot w j ≤ x := by
    intro j
    induction j with
    | zero => intro _; rw [knot_zero]; exact hx
    | succ n ih =>
      intro hn
      by_contra hlt
      exact hne ⟨⟨n, by omega⟩, ih (by omega), fun _ => lt_of_not_ge hlt⟩
  exact hne ⟨7, h 7 (by omega), fun h7 => absurd h7 (by decide)⟩

/-- A knot is at or below the point exactly when its number is at most the bin's. -/
theorem knot_le_iff (w : Fin 8 → ℝ) (hw : ∀ k, 0 < w k) (x : ℝ) (b : Fin 8) (hb : IsBin w x b) (j : ℕ) (hj : j < 8) :
    knot w j ≤ x ↔ j ≤ b.val := by
  constructor
  · intro h
    by_contra hlt
    have h1 := hb.2 (by omega)
    have h2 := knot_le w hw (b.val + 1) j (by omega) (by omega)
    linarith
  · intro h
    exact (knot_le w hw j b.val h (by omega)).trans hb.1

/-- The last knot can be at or below the point only in the last bin. -/
theorem last_knot (w : Fin 8 → ℝ) (hw : ∀ k, 0 < w k) (x : ℝ) (b : Fin 8) (hb : IsBin w x b) (h : knot w 8 ≤ x) :
    b = 7 := by
  by_contra hne
  have hlt : b.val < 7 := by
    have := b.isLt
    have h7 : b.val ≠ 7 := fun h => hne (Fin.ext h)
    omega
  have h1 := hb.2 hlt
  have h2 := knot_le w hw (b.val + 1) 8 (by omega) le_rfl
  linarith

/-- The two comparisons of bin `k`, the last one's upper end moved far to the right, single out the bin. -/
theorem mark_iff (w : Fin 8 → ℝ) (hw : ∀ k, 0 < w k) (x : ℝ) (hx : x ≤ 3) (B : ℝ) (hB : 10 ≤ B) (b : Fin 8)
    (hb : IsBin w x b) (k : Fin 8) :
    (knot w k.val ≤ x ∧ x < knot w k.val + w k + (if k.val = 7 then B else 0)) ↔ k = b := by
  rw [knot_le_iff w hw x b hb k.val k.isLt]
  have hs := knot_succ w k
  constructor
  · rintro ⟨h1, h2⟩
    by_contra hne
    have hlt : k.val < b.val := by
      have : k.val ≠ b.val := fun h => hne (Fin.ext h)
      omega
    have h7 : ¬ k.val = 7 := by omega
    rw [if_neg h7, ← hs] at h2
    have := (knot_le_iff w hw x b hb (k.val + 1) (by omega)).mpr hlt
    linarith
  · rintro rfl
    refine ⟨le_rfl, ?_⟩
    rw [← hs]
    split
    · have := knot_le w hw 0 (k.val + 1) (by omega) (by omega)
      rw [knot_zero] at this
      linarith
    · have := hb.2 (by omega)
      linarith

/-- The sum of a family over the marked bin alone is its member at that bin. -/
theorem sum_mark (a : Fin 8 → ℝ) (b : Fin 8) : (∑ k, a k * (if k = b then 1 else 0)) = a b := by
  simp

/-! ### The value and the logarithm of the derivative -/

/-- The numerator of the value, without the bin's height. -/
def num (d0 d1 t : ℝ) : ℝ := d0 * (t * t) + d1 * (t * (1 - t))

/-- The denominator. -/
def den (d0 d1 t : ℝ) : ℝ := d0 * (t * t) + 2 * d1 * (t * (1 - t)) + d1 * ((1 - t) * (1 - t))

/-- The numerator of the derivative, without the bin's height and width. -/
def dnum (d0 d1 t : ℝ) : ℝ := d1 * (t * t) + 2 * d0 * (t * (1 - t)) + d0 * ((1 - t) * (1 - t))

/-- The denominator and the derivative's numerator add up to the two slopes' sum. -/
theorem den_add_dnum (d0 d1 t : ℝ) : den d0 d1 t + dnum d0 d1 t = d0 + d1 := by unfold den dnum; ring

/-- Where the denominator vanishes the numerator does not. -/
theorem num_ne_zero (d0 d1 t : ℝ) (h0 : 0 < d0) (h1 : 0 < d1) (h : den d0 d1 t = 0) : num d0 d1 t ≠ 0 := by
  intro hn
  have h2 : d1 * (1 - t) = 0 := by
    have : den d0 d1 t = num d0 d1 t + d1 * (1 - t) := by unfold den num; ring
    linarith
  have ht : t = 1 := by
    rcases mul_eq_zero.mp h2 with h3 | h3 <;> linarith
  subst ht
  have : num d0 d1 1 = d0 := by unfold num; ring
  linarith

/-- Dividing is multiplying by the reciprocal, at a zero denominator too if the numerator is not zero. -/
theorem mul_recip (n d : ℝ) (h : d = 0 → n ≠ 0) :
    (n : EReal) * Ideal.div 1 (d : EReal) = Ideal.div (n : EReal) (d : EReal) := by
  by_cases hd : d = 0
  · have hn := h hd
    subst hd
    simp only [Ideal.div, EReal.coe_zero, if_true, zero_lt_one]
    rcases lt_or_gt_of_ne hn with hlt | hgt
    · rw [if_neg (by exact_mod_cast hlt.le.not_gt), EReal.coe_mul_top_of_neg hlt]
    · rw [if_pos (by exact_mod_cast hgt), EReal.coe_mul_top_of_pos hgt]
  · rw [Ideal.div_coe hd, Ideal.div_coe hd, one_mul]

/-- The value: multiplying by the denominator's reciprocal and dividing by it give the same. -/
theorem value_eq (ich ih d0 d1 t : ℝ) (hh : 0 < ih) (h0 : 0 < d0) (h1 : 0 < d1) :
    (ich : EReal) + ((ih * num d0 d1 t : ℝ) : EReal) * Ideal.div 1 (den d0 d1 t : EReal)
      = (ich : EReal) + Ideal.div ((ih * num d0 d1 t : ℝ) : EReal) (den d0 d1 t : EReal) := by
  rw [mul_recip]
  exact fun h => mul_ne_zero hh.ne' (num_ne_zero d0 d1 t h0 h1 h)

/-- The logarithm of a positive real number is the real logarithm. -/
theorem log_pos_real (r : ℝ) (h : 0 < r) : Ideal.log (r : EReal) = (Real.log r : EReal) := by
  show (if r ≤ 0 then (⊥ : EReal) else (Real.log r : EReal)) = _
  rw [if_neg (by linarith)]

/-- The logarithm of a real number that is not positive is minus infinity. -/
theorem log_nonpos (r : ℝ) (h : r ≤ 0) : Ideal.log (r : EReal) = ⊥ := by
  show (if r ≤ 0 then (⊥ : EReal) else (Real.log r : EReal)) = _
  rw [if_pos h]

/-- The logarithm of the derivative, where the denominator is not negative: the logarithm of the quotient and the
    difference of the logarithms are the same. -/
theorem logderiv_eq (c d0 d1 t : ℝ) (hc : 0 < c) (h0 : 0 < d0) (h1 : 0 < d1) (hd : 0 ≤ den d0 d1 t) :
    Ideal.log (((c * dnum d0 d1 t : ℝ) : EReal) * Ideal.div 1 (den d0 d1 t : EReal) * Ideal.div 1 (den d0 d1 t : EReal))
      = Ideal.log ((c * dnum d0 d1 t : ℝ) : EReal) - ((2 : ℝ) : EReal) * Ideal.log (den d0 d1 t : EReal) := by
  have hsum := den_add_dnum d0 d1 t
  generalize den d0 d1 t = e at *
  generalize dnum d0 d1 t = D at *
  rcases hd.eq_or_lt with he | he
  · subst he
    have hD : 0 < c * D := mul_pos hc (by linarith)
    have htop : Ideal.div 1 ((0 : ℝ) : EReal) = ⊤ := by
      simp [Ideal.div]
    rw [htop, EReal.coe_mul_top_of_pos hD, EReal.top_mul_top, log_pos_real _ hD, log_nonpos 0 le_rfl,
      EReal.coe_mul_bot_of_pos (by norm_num)]
    show (⊤ : EReal) = _
    rw [sub_eq_add_neg, EReal.neg_bot, EReal.coe_add_top]
  · have hinv : Ideal.div 1 (e : EReal) = ((1 / e : ℝ) : EReal) := by rw [Ideal.div_coe he.ne', one_mul]
    rw [hinv, ← EReal.coe_mul, ← EReal.coe_mul, log_pos_real e he]
    rcases lt_or_ge 0 D with hD | hD
    · have hcD := mul_pos hc hD
      have h1e : 0 < 1 / e := by positivity
      rw [log_pos_real _ (by positivity), log_pos_real _ hcD, ← EReal.coe_mul, ← EReal.coe_sub]
      congr 1
      rw [Real.log_mul (by positivity) h1e.ne', Real.log_mul hcD.ne' h1e.ne', one_div, Real.log_inv]
      ring
    · have hcD : c * D ≤ 0 := mul_nonpos_of_nonneg_of_nonpos hc.le hD
      have h1e : 0 < 1 / e := by positivity
      rw [log_nonpos _ (mul_nonpos_of_nonpos_of_nonneg (mul_nonpos_of_nonpos_of_nonneg hcD h1e.le) h1e.le),
        log_nonpos _ hcD, ← EReal.coe_mul, sub_eq_add_neg, EReal.bot_add]

end Cert.Spline

end
-- ==== Proof.Elem.lean ====
/- One element of the transform over the real numbers: the clamped point, its bin, its place in the bin, the value and
   the logarithm of the derivative, from the point and the logits of its feature. -/
module

public import proofs.«01_k».proof.Proof.Spec

@[expose] public section

noncomputable section

open Classical

namespace Cert.Spline

open Idealize.ShloMosaic

/-- The point lies in the interval on which the spline acts. -/
def Inside (x : ℝ) : Prop := -3 ≤ x ∧ x ≤ 3

/-- The point, replaced by zero outside the interval. -/
def inner (x : ℝ) : ℝ := if Inside x then x else 0

/-- The replaced point is at least minus three. -/
theorem inner_ge (x : ℝ) : -3 ≤ inner x := by
  unfold inner; split
  · next h => exact h.1
  · norm_num

/-- The replaced point is at most three. -/
theorem inner_le (x : ℝ) : inner x ≤ 3 := by
  unfold inner; split
  · next h => exact h.2
  · norm_num

/-- The bin of the point. -/
def bin (x : ℝ) (u : Fin 8 → ℝ) : Fin 8 := choose (exists_bin (width u) (inner x) (inner_ge x))

/-- The bin holds the point. -/
theorem bin_spec (x : ℝ) (u : Fin 8 → ℝ) : IsBin (width u) (inner x) (bin x u) :=
  choose_spec (exists_bin (width u) (inner x) (inner_ge x))

/-- The place of the point in its bin, zero at the left end and one at the right end. -/
def place (x : ℝ) (u : Fin 8 → ℝ) : ℝ := (inner x - knot (width u) (bin x u).val) / width u (bin x u)

/-- The denominator at the point, from the logits `gl` and `gr` of the slopes at the bins' left and right ends. -/
def denAt (x : ℝ) (u gl gr : Fin 8 → ℝ) : ℝ :=
  den (slope (gl (bin x u))) (slope (gr (bin x u))) (place x u)

/-- The value's numerator at the point. -/
def numAt (x : ℝ) (u v gl gr : Fin 8 → ℝ) : ℝ :=
  width v (bin x u) * num (slope (gl (bin x u))) (slope (gr (bin x u))) (place x u)

/-- The derivative's numerator at the point. -/
def dnumAt (x : ℝ) (u v gl gr : Fin 8 → ℝ) : ℝ :=
  width v (bin x u) / width u (bin x u) * dnum (slope (gl (bin x u))) (slope (gr (bin x u))) (place x u)

/-- The transformed point. -/
def value (x : ℝ) (u v gl gr : Fin 8 → ℝ) : EReal :=
  if Inside x then (knot (width v) (bin x u).val : EReal) + Ideal.div (numAt x u v gl gr : EReal) (denAt x u gl gr : EReal)
  else (x : EReal)

/-- The logarithm of the derivative, as a difference of logarithms. -/
def logDeriv (x : ℝ) (u v gl gr : Fin 8 → ℝ) : EReal :=
  if Inside x then Ideal.log (dnumAt x u v gl gr : EReal) - ((2 : ℝ) : EReal) * Ideal.log (denAt x u gl gr : EReal) else 0

/-- The logarithm of the derivative, as the logarithm of a product with reciprocals. -/
def logDeriv' (x : ℝ) (u v gl gr : Fin 8 → ℝ) : EReal :=
  if Inside x then Ideal.log ((dnumAt x u v gl gr : EReal) * Ideal.div 1 (denAt x u gl gr : EReal) * Ideal.div 1 (denAt x u gl gr : EReal)) else 0

/-- The two agree where the denominator is not negative. -/
theorem logDeriv'_eq (x : ℝ) (u v gl gr : Fin 8 → ℝ) (h : Inside x → 0 ≤ denAt x u gl gr) :
    logDeriv' x u v gl gr = logDeriv x u v gl gr := by
  unfold logDeriv' logDeriv
  split
  · next hi => exact logderiv_eq _ _ _ _ (div_pos (width_pos _ _) (width_pos _ _)) (slope_pos _) (slope_pos _) (h hi)
  · rfl

/-- The value with a product by the reciprocal in place of the quotient. -/
theorem value_recip (x : ℝ) (u v gl gr : Fin 8 → ℝ) :
    (if Inside x then (knot (width v) (bin x u).val : EReal) + (numAt x u v gl gr : EReal) * Ideal.div 1 (denAt x u gl gr : EReal)
      else (x : EReal)) = value x u v gl gr := by
  unfold value
  split
  · exact value_eq _ _ _ _ _ (width_pos _ _) (slope_pos _) (slope_pos _)
  · rfl

/-! ### Sums and maxima of coerced real numbers -/

/-- A sum of coerced real numbers is the coerced sum. -/
theorem coe_sum {ι : Type} (s : Finset ι) (a : ι → ℝ) : (∑ i ∈ s, (a i : EReal)) = ((∑ i ∈ s, a i : ℝ) : EReal) := by
  induction s using Finset.cons_induction with
  | empty => simp
  | cons i s hi ih => rw [Finset.sum_cons, Finset.sum_cons, ih, EReal.coe_add]

/-- A maximum of coerced real numbers is a coerced real number. -/
theorem coe_max (a b : ℝ) : max (a : EReal) (b : EReal) = ((max a b : ℝ) : EReal) :=
  (EReal.coe_strictMono.monotone.map_max).symm

/-- The word of minus infinity. -/
theorem neg_inf_word : (Ideal.ofBits .f32 0xFF800000#32 : EReal) = ⊥ := by
  simp [Ideal.ofBits, Ideal.ieee]

/-- The running maximum of finitely many coerced real numbers is one. -/
theorem exists_fold_max {ι : Type} (s : Finset ι) (hs : s.Nonempty) (a : ι → ℝ) :
    ∃ M : ℝ, Finset.fold max (⊥ : EReal) (fun i => (a i : EReal)) s = (M : EReal) := by
  induction hs using Finset.Nonempty.cons_induction with
  | singleton i => exact ⟨a i, by simp⟩
  | cons i s hi hs ih =>
    obtain ⟨M, hM⟩ := ih
    exact ⟨max (a i) M, by rw [Finset.fold_cons, hM, coe_max]⟩

/-- The word of the least width. -/
theorem least_word : (Ideal.ofBits .f32 0x3A83126F#32 : EReal) = (least : EReal) := by
  unfold least
  simp [Ideal.ofBits, Ideal.ieee, -EReal.coe_mul]
  norm_num

/-- The word of three. -/
theorem three_word : (Ideal.ofBits .f32 0x40400000#32 : EReal) = ((3 : ℝ) : EReal) := by
  simp [Ideal.ofBits, Ideal.ieee, -EReal.coe_mul]
  norm_num

/-- The word of minus three. -/
theorem neg_three_word : (Ideal.ofBits .f32 0xC0400000#32 : EReal) = ((-3 : ℝ) : EReal) := by
  simp [Ideal.ofBits, Ideal.ieee, -EReal.coe_mul]
  norm_num

/-- The word of two. -/
theorem two_word : (Ideal.ofBits .f32 0x40000000#32 : EReal) = ((2 : ℝ) : EReal) := by
  simp [Ideal.ofBits, Ideal.ieee, -EReal.coe_mul]
  norm_num

/-- The exponential of a real number. -/
theorem exp_coe (a : ℝ) : Ideal.exp (a : EReal) = (Real.exp a : EReal) := rfl

/-- A quotient of real numbers with a denominator that is not zero. -/
theorem div_coe_coe (a b : ℝ) (h : b ≠ 0) : Ideal.div (a : EReal) (b : EReal) = ((a / b : ℝ) : EReal) := by
  rw [Ideal.div_coe h, ← EReal.coe_mul, mul_one_div]

/-- Softplus plus the least slope, as the two programs write it. -/
theorem slope_coe (g : ℝ) :
    max (g : EReal) 0 + Ideal.log1p (Ideal.exp (0 - max (g : EReal) (-(g : EReal)))) + (least : EReal) = (slope g : EReal) := by
  have h : max (g : EReal) (-(g : EReal)) = ((|g| : ℝ) : EReal) := by
    rw [← EReal.coe_neg, coe_max]; rfl
  have h1 : (1 : EReal) = ((1 : ℝ) : EReal) := rfl
  rw [h, ← EReal.coe_zero, ← EReal.coe_sub, zero_sub, exp_coe, coe_max, Ideal.log1p, h1, ← EReal.coe_add,
    log_pos_real _ (by positivity), ← EReal.coe_add, ← EReal.coe_add]
  rfl

end Cert.Spline

end
-- ==== Proof.Block.lean ====
/- What one block of the kernel computes: its payloads read at an index, as coerced real numbers. A row `r` of the
   128-row arrays is bin `r % 8` of feature `r / 8`. -/
module

public import proofs.«01_k».proof.Proof.Elem
public import proofs.«01_k».proof.Proof.Gen.KernelIdeal.Skeleton
public import Idealize.ShloMosaic.Lib.Pointwise
public import Idealize.ShloMosaic.Lib.MatmulPlain

@[expose] public section

set_option maxRecDepth 16384

noncomputable section

open Classical

namespace Cert.Spline

open Cert.KernelIdeal Cert.KernelIdeal.Gen Idealize.ShloMosaic

/-- The feature of a row. -/
abbrev ft (r : Fin 128) : Fin 16 := ⟨r.val / 8, by omega⟩

/-- The bin of a row. -/
abbrev bn (r : Fin 128) : Fin 8 := ⟨r.val % 8, by omega⟩

/-! ### Sums over the rows -/

/-- A sum over the rows that keeps one feature's rows is the sum over that feature's bins. -/
theorem rows_sum (G : Fin 16 → Fin 8 → ℝ) (f : Fin 16) :
    (∑ r : Fin 128, if r.val / 8 = f.val then G (ft r) (bn r) else 0) = ∑ k, G f k := by
  have h : (∑ r : Fin 128, if r.val / 8 = f.val then G (ft r) (bn r) else 0)
      = ∑ p : Fin 16 × Fin 8, if p.1.val = f.val then G p.1 p.2 else 0 := by
    refine Eq.symm (Fintype.sum_equiv (finProdFinEquiv : Fin 16 × Fin 8 ≃ Fin 128) _ _ fun p => ?_)
    obtain ⟨a, b⟩ := p
    have hv : (finProdFinEquiv (a, b) : Fin 128).val = b.val + 8 * a.val := rfl
    have h1 : (b.val + 8 * a.val) / 8 = a.val := by omega
    have h2 : (b.val + 8 * a.val) % 8 = b.val := by omega
    have e1 : ft (finProdFinEquiv (a, b)) = a := Fin.ext (by show (finProdFinEquiv (a, b) : Fin 128).val / 8 = _; rw [hv, h1])
    have e2 : bn (finProdFinEquiv (a, b)) = b := Fin.ext (by show (finProdFinEquiv (a, b) : Fin 128).val % 8 = _; rw [hv, h2])
    rw [e1, e2, hv, h1]
  rw [h, Fintype.sum_prod_type, Finset.sum_eq_single f]
  · simp
  · intro a _ hne
    simp [Fin.val_ne_of_ne hne]
  · simp

/-- A coefficient one or zero times a coerced real number. -/
theorem coef_mul (p : Prop) [Decidable p] (a : ℝ) : (if p then (1 : EReal) else 0) * (a : EReal) = ((if p then a else 0 : ℝ) : EReal) := by
  split <;> simp

/-- The mark of two tests, as a number. -/
theorem mark_word (p p' : Prop) [Decidable p] [Decidable p'] :
    (FloatOps.sitofp (F := Ideal) .f32 (BitVec.setWidth 32 (IntOp.andi (BitVec.ofBool (decide p)) (BitVec.ofBool (decide p')))) : EReal)
      = ((if p ∧ p' then 1 else 0 : ℝ) : EReal) := by
  show (((BitVec.setWidth 32 (IntOp.andi (BitVec.ofBool (decide p)) (BitVec.ofBool (decide p')))).toInt : ℝ) : EReal) = _
  by_cases h : p <;> by_cases h' : p' <;> simp [h, h', IntOp.andi]

section block

variable (q : Fin 2048)

/-- The widths of a block from shifted exponentials. -/
theorem pay14_at (v37 : FVec Ideal S16x8x2048 .f32) (u : Fin 16 → Fin 8 → ℝ)
    (h : ∀ f, ∃ M : ℝ, ∀ k, v37 (ix3 f k q) = (Real.exp (u f k - M) : EReal)) (r : Fin 128) :
    k0_pay14 v37 (ix2 r q) = (width (u (ft r)) (bn r) : EReal) := by
  pointwise [k0_pay14]
  obtain ⟨M, hM⟩ := h (ft r)
  simp only [hM]
  rw [coe_sum, least_word, IdealRules.named_const.ideal_named_scalar _ _ _ _ rfl,
    div_coe_coe _ _ (sum_exp_pos _).ne', ← EReal.coe_mul, ← EReal.coe_add]
  rw [← width_scaled (u (ft r)) M (bn r)]

/-- The heights of a block. -/
theorem pay15_at (v32 : FVec Ideal S16x8x2048 .f32) (u : Fin 16 → Fin 8 → ℝ)
    (h : ∀ f k, v32 (ix3 f k q) = (u f k : EReal)) (r : Fin 128) :
    k0_pay15 v32 (ix2 r q) = (width (u (ft r)) (bn r) : EReal) := by
  pointwise [k0_pay15]
  simp only [h, neg_inf_word]
  obtain ⟨M, hM⟩ := exists_fold_max Finset.univ Finset.univ_nonempty (u ⟨r.val / 8, by omega⟩)
  simp only [hM, ← EReal.coe_sub, exp_coe]
  rw [coe_sum, least_word, IdealRules.named_const.ideal_named_scalar _ _ _ _ rfl,
    div_coe_coe _ _ (sum_exp_pos _).ne', ← EReal.coe_mul, ← EReal.coe_add]
  rw [← width_scaled (u (ft r)) M (bn r)]

/-- The strictly lower triangular product gives the knots. -/
theorem lower_sum (lt : Vec Ideal S128x128 .f32)
    (hlt : ∀ r x : Fin 128, lt (ix2 r x) = if x.val / 8 = r.val / 8 ∧ x.val % 8 < r.val % 8 then (1 : EReal) else 0)
    (w : Fin 128 → EReal) (W : Fin 16 → Fin 8 → ℝ) (hw : ∀ r, w r = (W (ft r) (bn r) : EReal)) (r : Fin 128) :
    (∑ x, lt (ix2 r x) * w x) - ((3 : ℝ) : EReal) = (knot (W (ft r)) (r.val % 8) : EReal) := by
  simp only [hlt, hw, coef_mul]
  rw [coe_sum, ← EReal.coe_sub]
  congr 1
  unfold knot
  congr 1
  rw [← rows_sum (fun f k => if k.val < r.val % 8 then W f k else 0) (ft r)]
  refine Finset.sum_congr rfl fun x _ => ?_
  by_cases h : x.val / 8 = r.val / 8
  · have e : ft x = ft r := Fin.ext h
    simp [h]
  · simp [h]

/-- The left ends of the bins. -/
theorem pay16_at (v37 : FVec Ideal S16x8x2048 .f32) (lt : Vec Ideal S128x128 .f32)
    (hlt : ∀ r x : Fin 128, lt (ix2 r x) = if x.val / 8 = r.val / 8 ∧ x.val % 8 < r.val % 8 then (1 : EReal) else 0)
    (W : Fin 16 → Fin 8 → ℝ) (h : ∀ r, k0_pay14 v37 (ix2 r q) = (W (ft r) (bn r) : EReal)) (r : Fin 128) :
    k0_pay16 v37 lt (ix2 r q) = (knot (W (ft r)) (bn r).val : EReal) := by
  pointwise [k0_pay16]
  rw [three_word]
  exact lower_sum lt hlt (fun x => k0_pay14 v37 (ix2 x q)) W h r

/-- The lower ends of the bins' images. -/
theorem pay17_at (v32 : FVec Ideal S16x8x2048 .f32) (lt : Vec Ideal S128x128 .f32)
    (hlt : ∀ r x : Fin 128, lt (ix2 r x) = if x.val / 8 = r.val / 8 ∧ x.val % 8 < r.val % 8 then (1 : EReal) else 0)
    (W : Fin 16 → Fin 8 → ℝ) (h : ∀ r, k0_pay15 v32 (ix2 r q) = (W (ft r) (bn r) : EReal)) (r : Fin 128) :
    k0_pay17 v32 lt (ix2 r q) = (knot (W (ft r)) (bn r).val : EReal) := by
  pointwise [k0_pay17]
  rw [three_word]
  exact lower_sum lt hlt (fun x => k0_pay15 v32 (ix2 x q)) W h r

/-- The right ends of the bins, the last one opened by the number `B`. -/
theorem pay18_at (v37 : FVec Ideal S16x8x2048 .f32) (lt : Vec Ideal S128x128 .f32) (big : Vec Ideal S128x1 .f32)
    (hlt : ∀ r x : Fin 128, lt (ix2 r x) = if x.val / 8 = r.val / 8 ∧ x.val % 8 < r.val % 8 then (1 : EReal) else 0)
    (B : ℝ) (hbig : ∀ r : Fin 128, big (ix2 r (0 : Fin 1)) = ((if r.val % 8 = 7 then B else 0 : ℝ) : EReal))
    (W : Fin 16 → Fin 8 → ℝ) (h : ∀ r, k0_pay14 v37 (ix2 r q) = (W (ft r) (bn r) : EReal)) (r : Fin 128) :
    k0_pay18 v37 lt big (ix2 r q) = ((knot (W (ft r)) (bn r).val + W (ft r) (bn r) + (if (bn r).val = 7 then B else 0) : ℝ) : EReal) := by
  pointwise [k0_pay18]
  rw [pay16_at q v37 lt hlt W h r, h, hbig, ← EReal.coe_add, ← EReal.coe_add]

/-- The test for the interval. -/
theorem inside_at (v1 : FVec Ideal S16x2048 .f32) (X : Fin 16 → ℝ) (hx : ∀ f, v1 (ix2 f q) = (X f : EReal)) (f : Fin 16) :
    k0_pay21 (k0_pay19 v1) (k0_pay20 v1) (ix2 f q) = BitVec.ofBool (decide (Inside (X f))) := by
  pointwise [k0_pay21, k0_pay19, k0_pay20]
  rw [hx, three_word, neg_three_word]
  simp only [EReal.coe_le_coe_iff, Inside]
  by_cases h1 : -3 ≤ X f <;> by_cases h2 : X f ≤ 3 <;> simp [h1, h2, IntOp.andi]

/-- A selection by a decided proposition. -/
theorem select_ofBool {α : Type} (p : Prop) [Decidable p] (a b : α) : Scalar.select (BitVec.ofBool (decide p)) a b = if p then a else b := by
  by_cases h : p <;> simp [h, Scalar.select]

/-- The replaced points. -/
theorem inner_at (v1 : FVec Ideal S16x2048 .f32) (X : Fin 16 → ℝ) (hx : ∀ f, v1 (ix2 f q) = (X f : EReal)) (f : Fin 16) :
    k0_pay22 v1 (k0_pay19 v1) (k0_pay20 v1) (ix2 f q) = (inner (X f) : EReal) := by
  have h := inside_at q v1 X hx f
  pointwise [k0_pay22]
  rw [h, select_ofBool, hx]
  unfold inner
  split <;> rfl

variable (v1 : FVec Ideal S16x2048 .f32) (X : Fin 16 → ℝ) (hx : ∀ f, v1 (ix2 f q) = (X f : EReal))
variable (sb : Vec Ideal S16x128 .f32) (bb : Vec Ideal S128x16 .f32)
variable (hsb : ∀ (f : Fin 16) (r : Fin 128), sb (ix2 f r) = if r.val / 8 = f.val then (1 : EReal) else 0)
variable (hbb : ∀ (r : Fin 128) (f : Fin 16), bb (ix2 r f) = if r.val / 8 = f.val then (1 : EReal) else 0)
variable (lo up : FVec Ideal S128x2048 .f32) (U : Fin 16 → Fin 8 → ℝ) (B : ℝ) (hB : 10 ≤ B)
variable (hlo : ∀ r, lo (ix2 r q) = (knot (width (U (ft r))) (bn r).val : EReal))
variable (hup : ∀ r, up (ix2 r q) = ((knot (width (U (ft r))) (bn r).val + width (U (ft r)) (bn r) + (if (bn r).val = 7 then B else 0) : ℝ) : EReal))

include hx hbb hlo hup hB in
/-- The marks: one at the row of the point's bin, zero elsewhere. -/
theorem mark_at (r : Fin 128) :
    k0_pay23 v1 bb lo up (k0_pay19 v1) (k0_pay20 v1) (ix2 r q)
      = ((if bn r = bin (X (ft r)) (U (ft r)) then 1 else 0 : ℝ) : EReal) := by
  pointwise [k0_pay23]
  have hs : (∑ x, bb (ix2 r x) * k0_pay22 v1 (k0_pay19 v1) (k0_pay20 v1) (ix2 x q)) = (inner (X (ft r)) : EReal) := by
    simp only [hbb, inner_at q v1 X hx, coef_mul]
    rw [coe_sum]
    congr 1
    rw [Finset.sum_eq_single (ft r)]
    · simp
    · intro b _ hne
      rw [if_neg]
      exact fun e => hne (Fin.ext e.symm)
    · simp
  rw [hs, hlo, hup]
  simp only [EReal.coe_le_coe_iff, EReal.coe_lt_coe_iff]
  have hm := mark_iff (width (U (ft r))) (width_pos _) (inner (X (ft r))) (inner_le _) B hB _ (bin_spec (X (ft r)) (U (ft r))) (bn r)
  refine (mark_word _ _).trans ?_
  congr 1
  exact if_congr hm rfl rfl

include hx hsb hbb hlo hup hB in
/-- Summing the marked rows of a feature picks the row of the point's bin. -/
theorem pick_at (A : FVec Ideal S128x2048 .f32) (a : Fin 16 → Fin 8 → ℝ) (hA : ∀ r, A (ix2 r q) = (a (ft r) (bn r) : EReal)) (f : Fin 16) :
    (∑ x, sb (ix2 f x) * (A (ix2 x q) * k0_pay23 v1 bb lo up (k0_pay19 v1) (k0_pay20 v1) (ix2 x q)))
      = (a f (bin (X f) (U f)) : EReal) := by
  simp only [hsb, hA, mark_at q v1 X hx bb hbb lo up U B hB hlo hup, ← EReal.coe_mul, coef_mul]
  rw [coe_sum]
  congr 1
  rw [rows_sum (fun f k => a f k * (if k = bin (X f) (U f) then 1 else 0)) f, sum_mark]

include hx hsb hbb hlo hup hB in
/-- The lower end of the image of the point's bin. -/
theorem pay24_at (A : FVec Ideal S128x2048 .f32) (a : Fin 16 → Fin 8 → ℝ) (hA : ∀ r, A (ix2 r q) = (a (ft r) (bn r) : EReal)) (f : Fin 16) :
    k0_pay24 v1 sb bb lo A up (k0_pay19 v1) (k0_pay20 v1) (ix2 f q) = (a f (bin (X f) (U f)) : EReal) := by
  pointwise [k0_pay24]
  exact pick_at q v1 X hx sb bb hsb hbb lo up U B hB hlo hup A a hA f

include hx hsb hbb hlo hup hB in
/-- The height of the point's bin. -/
theorem pay25_at (A : FVec Ideal S128x2048 .f32) (a : Fin 16 → Fin 8 → ℝ) (hA : ∀ r, A (ix2 r q) = (a (ft r) (bn r) : EReal)) (f : Fin 16) :
    k0_pay25 v1 A sb bb lo up (k0_pay19 v1) (k0_pay20 v1) (ix2 f q) = (a f (bin (X f) (U f)) : EReal) := by
  pointwise [k0_pay25]
  exact pick_at q v1 X hx sb bb hsb hbb lo up U B hB hlo hup A a hA f

include hx hsb hbb hlo hup hB in
/-- The slope at the left end of the point's bin. -/
theorem pay26_at (A : FVec Ideal S128x2048 .f32) (a : Fin 16 → Fin 8 → ℝ) (hA : ∀ r, A (ix2 r q) = (a (ft r) (bn r) : EReal)) (f : Fin 16) :
    k0_pay26 v1 A sb bb lo up (k0_pay19 v1) (k0_pay20 v1) (ix2 f q) = (slope (a f (bin (X f) (U f))) : EReal) := by
  pointwise [k0_pay26]
  rw [pick_at q v1 X hx sb bb hsb hbb lo up U B hB hlo hup A a hA f, least_word]
  exact slope_coe _

include hx hsb hbb hlo hup hB in
/-- The slope at the right end of the point's bin. -/
theorem pay27_at (A : FVec Ideal S128x2048 .f32) (a : Fin 16 → Fin 8 → ℝ) (hA : ∀ r, A (ix2 r q) = (a (ft r) (bn r) : EReal)) (f : Fin 16) :
    k0_pay27 v1 A sb bb lo up (k0_pay19 v1) (k0_pay20 v1) (ix2 f q) = (slope (a f (bin (X f) (U f))) : EReal) := by
  pointwise [k0_pay27]
  rw [pick_at q v1 X hx sb bb hsb hbb lo up U B hB hlo hup A a hA f, least_word]
  exact slope_coe _

include hx hsb hbb hlo hup hB in
/-- The reciprocal of the width of the point's bin. -/
theorem pay28_at (A : FVec Ideal S128x2048 .f32) (hA : ∀ r, A (ix2 r q) = (width (U (ft r)) (bn r) : EReal)) (f : Fin 16) :
    k0_pay28 v1 A sb bb lo up (k0_pay19 v1) (k0_pay20 v1) (ix2 f q) = ((1 / width (U f) (bin (X f) (U f)) : ℝ) : EReal) := by
  pointwise [k0_pay28]
  rw [pick_at q v1 X hx sb bb hsb hbb lo up U B hB hlo hup A (fun f => width (U f)) hA f, Ideal.div_coe (width_pos _ _).ne', one_mul]

include hx hsb hbb hlo hup hB in
/-- The place of the point in its bin. -/
theorem pay29_at (A : FVec Ideal S128x2048 .f32) (hA : ∀ r, A (ix2 r q) = (width (U (ft r)) (bn r) : EReal)) (f : Fin 16) :
    k0_pay29 v1 A sb bb lo up (k0_pay19 v1) (k0_pay20 v1) (ix2 f q) = (place (X f) (U f) : EReal) := by
  have h28 := pay28_at q v1 X hx sb bb hsb hbb lo up U B hB hlo hup A hA f
  have hi := inner_at q v1 X hx f
  have hp := pick_at q v1 X hx sb bb hsb hbb lo up U B hB hlo hup lo (fun f k => knot (width (U f)) k.val) hlo f
  pointwise [k0_pay29]
  rw [h28, hi, hp, ← EReal.coe_sub, ← EReal.coe_mul, mul_one_div]
  rfl

/-! ### The two results -/

variable (V El Er : Fin 16 → Fin 8 → ℝ)
variable (base ih d0 d1 th : FVec Ideal S16x2048 .f32)
variable (hbase : ∀ f, base (ix2 f q) = (knot (width (V f)) (bin (X f) (U f)).val : EReal))
variable (hih : ∀ f, ih (ix2 f q) = (width (V f) (bin (X f) (U f)) : EReal))
variable (hd0 : ∀ f, d0 (ix2 f q) = (slope (El f (bin (X f) (U f))) : EReal))
variable (hd1 : ∀ f, d1 (ix2 f q) = (slope (Er f (bin (X f) (U f))) : EReal))
variable (hth : ∀ f, th (ix2 f q) = (place (X f) (U f) : EReal))

include hd0 hd1 hth in
/-- The denominator's reciprocal. -/
theorem pay5_at (f : Fin 16) :
    k0_pay5 d0 d1 th (ix2 f q) = Ideal.div 1 (denAt (X f) (U f) (El f) (Er f) : EReal) := by
  pointwise [k0_pay5, k0_pay4, k0_pay3, k0_pay2, k0_pay1]
  rw [hd0, hd1, hth, two_word]
  simp only [← EReal.coe_one, ← EReal.coe_sub, ← EReal.coe_mul, ← EReal.coe_add]
  rfl

include hx hbase hih hd0 hd1 hth in
/-- The block's values. -/
theorem pay6_at (f : Fin 16) :
    k0_pay6 v1 (k0_pay21 (k0_pay19 v1) (k0_pay20 v1)) base ih d0 d1 th (ix2 f q)
      = value (X f) (U f) (V f) (El f) (Er f) := by
  have h5 := pay5_at q X U El Er d0 d1 th hd0 hd1 hth f
  have hi := inside_at q v1 X hx f
  pointwise [k0_pay6, k0_pay3, k0_pay2, k0_pay1]
  rw [h5, hi, select_ofBool, hx, hbase, hih, hd0, hd1, hth, ← value_recip]
  simp only [← EReal.coe_one, ← EReal.coe_sub, ← EReal.coe_mul, ← EReal.coe_add]
  rfl

include hx hih hd0 hd1 hth in
/-- The block's sums of logarithms of derivatives; `rw` is the reciprocal of the bin's width. -/
theorem pay7_at (rw' : FVec Ideal S16x2048 .f32) (hrw : ∀ f, rw' (ix2 f q) = ((1 / width (U f) (bin (X f) (U f)) : ℝ) : EReal)) :
    k0_pay7 (k0_pay21 (k0_pay19 v1) (k0_pay20 v1)) ih d0 d1 rw' th (ix2 (0 : Fin 1) q)
      = ∑ f, logDeriv' (X f) (U f) (V f) (El f) (Er f) := by
  have h5 := fun f => pay5_at q X U El Er d0 d1 th hd0 hd1 hth f
  have hi := fun f => inside_at q v1 X hx f
  pointwise [k0_pay7, k0_pay4, k0_pay3, k0_pay2, k0_pay1]
  refine Finset.sum_congr rfl fun f _ => ?_
  rw [h5, hi, select_ofBool, hih, hd0, hd1, hth, hrw, two_word]
  unfold logDeriv' dnumAt
  simp only [← EReal.coe_one, ← EReal.coe_sub, ← EReal.coe_mul, ← EReal.coe_add, mul_one_div]
  rfl

end block

end Cert.Spline

end
-- ==== Proof.Net.lean ====
/- The small network over the real numbers that produces the logits of a row, how the logits are shared out among the
   features, and the two results of a row. -/
module

public import proofs.«01_k».proof.Proof.Elem

@[expose] public section

noncomputable section

namespace Cert.Spline

/-- The weights and biases of the three layers. -/
structure Params where
  W1 : Fin 16 → Fin 64 → ℝ
  b1 : Fin 64 → ℝ
  W2 : Fin 64 → Fin 128 → ℝ
  b2 : Fin 128 → ℝ
  W3 : Fin 128 → Fin 400 → ℝ
  b3 : Fin 400 → ℝ

/-- The first hidden layer. -/
def hid1 (p : Params) (x : Fin 16 → ℝ) (j : Fin 64) : ℝ := max ((∑ i, x i * p.W1 i j) + p.b1 j) 0

/-- The second hidden layer. -/
def hid2 (p : Params) (x : Fin 16 → ℝ) (j : Fin 128) : ℝ := max ((∑ i, hid1 p x i * p.W2 i j) + p.b2 j) 0

/-- The logits. -/
def logit (p : Params) (x : Fin 16 → ℝ) (j : Fin 400) : ℝ := (∑ i, hid2 p x i * p.W3 i j) + p.b3 j

/-- The logits of the widths of feature `f`. -/
def lw (l : Fin 400 → ℝ) (f : Fin 16) (k : Fin 8) : ℝ := l ⟨f.val * 25 + k.val, by omega⟩

/-- The logits of the heights. -/
def lh (l : Fin 400 → ℝ) (f : Fin 16) (k : Fin 8) : ℝ := l ⟨f.val * 25 + 8 + k.val, by omega⟩

/-- The logits of the slopes at the nine knots. -/
def ls (l : Fin 400 → ℝ) (f : Fin 16) (j : Fin 9) : ℝ := l ⟨f.val * 25 + 16 + j.val, by omega⟩

/-- The transformed entry of a row. -/
def rowValue (p : Params) (x : Fin 16 → ℝ) (f : Fin 16) : EReal :=
  value (x f) (lw (logit p x) f) (lh (logit p x) f) (fun k => ls (logit p x) f k.castSucc) (fun k => ls (logit p x) f k.succ)

/-- The logarithm of the row's derivative: a sum over the features of differences of logarithms. -/
def rowLog (p : Params) (x : Fin 16 → ℝ) : EReal :=
  ∑ f, logDeriv (x f) (lw (logit p x) f) (lh (logit p x) f) (fun k => ls (logit p x) f k.castSucc) (fun k => ls (logit p x) f k.succ)

/-- The same with logarithms of products by reciprocals. -/
def rowLog' (p : Params) (x : Fin 16 → ℝ) : EReal :=
  ∑ f, logDeriv' (x f) (lw (logit p x) f) (lh (logit p x) f) (fun k => ls (logit p x) f k.castSucc) (fun k => ls (logit p x) f k.succ)

/-- The denominator of feature `f`. -/
def rowDen (p : Params) (x : Fin 16 → ℝ) (f : Fin 16) : ℝ :=
  denAt (x f) (lw (logit p x) f) (fun k => ls (logit p x) f k.castSucc) (fun k => ls (logit p x) f k.succ)

/-- The two forms agree on a row all of whose denominators inside the interval are not negative. -/
theorem rowLog'_eq (p : Params) (x : Fin 16 → ℝ) (h : ∀ f, Inside (x f) → 0 ≤ rowDen p x f) : rowLog' p x = rowLog p x :=
  Finset.sum_congr rfl fun f _ => logDeriv'_eq _ _ _ _ _ (h f)

end Cert.Spline

end
-- ==== Proof.Literals.lean ====
/- The constant tables that the host code of the kernel builds, read entry by entry. -/
module

public import proofs.«01_k».proof.Proof.Gen.KernelIdeal

@[expose] public section

set_option maxRecDepth 16384

noncomputable section

namespace Cert.Spline

open Cert.KernelIdeal Idealize.ShloMosaic

/-- The column of the logits that row `r` of the kernel's last matrix product holds: four groups of 128 rows, the
    widths, the heights, the left slopes and the right slopes of the sixteen features' eight bins. -/
def permN (r : ℕ) : ℕ :=
  r % 128 / 8 * 25 + (if r / 128 = 3 then 17 else r / 128 * 8) + r % 8

/-- It is a column of the logits. -/
theorem permN_lt (r : ℕ) (h : r < 512) : permN r < 400 := by
  unfold permN; split <;> omega

/-- The table of row numbers holds the column of row `128 * a + b`. -/
theorem lit0_eq : ∀ (a : Fin 4) (b : Fin 128), lit0 ⟨128 * a.val + b.val, by omega⟩ = BitVec.ofNat 32 (permN (128 * a.val + b.val)) := by
  decide +kernel

/-- The strictly lower triangular table of each feature. -/
theorem lit1_eq : ∀ (r c : Fin 128), lit1 ⟨128 * r.val + c.val, by omega⟩
    = if c.val / 8 = r.val / 8 ∧ c.val % 8 < r.val % 8 then 0x3F800000#32 else 0x00000000#32 := by
  decide +kernel

/-- The table that sums the eight rows of a feature. -/
theorem lit2_eq : ∀ (f : Fin 16) (r : Fin 128), lit2 ⟨128 * f.val + r.val, by omega⟩
    = if r.val / 8 = f.val then 0x3F800000#32 else 0x00000000#32 := by
  decide +kernel

/-- The table that repeats a feature over its eight rows. -/
theorem lit3_eq : ∀ (r : Fin 128) (f : Fin 16), lit3 ⟨16 * r.val + f.val, by omega⟩
    = if r.val / 8 = f.val then 0x3F800000#32 else 0x00000000#32 := by
  decide +kernel

/-- The table that opens the last bin of each feature to the right. -/
theorem lit4_eq : ∀ (r : Fin 128), lit4 r = if r.val % 8 = 7 then 0x7149F2CA#32 else 0x00000000#32 := by
  decide +kernel

end Cert.Spline

end
-- ==== Proof.BlockOut.lean ====
/- What one block of the kernel leaves in its two output windows, from the values of its input windows. -/
module

public import proofs.«01_k».proof.Proof.Block
public import proofs.«01_k».proof.Proof.Net
public import proofs.«01_k».proof.Proof.Literals
public import proofs.«01_k».proof.Proof.Gen.KernelIdeal.Frame
public import Idealize.ShloMosaic.Lib.Pipeline.ValueKit

@[expose] public section

set_option maxRecDepth 16384

noncomputable section

namespace Cert.Spline

open Cert.KernelIdeal Cert.KernelIdeal.Gen Idealize.ShloMosaic

/-- What the input windows of a block hold at column `q`: the row `x`, the parameters `p` (the last layer's in the
    kernel's order of rows), and the tables. -/
structure Holds (x0 : Vec Ideal S16x2048 .f32) (x1 : Vec Ideal S64x16 .f32) (x2 : Vec Ideal S64x1 .f32) (x3 : Vec Ideal S128x64 .f32)
    (x4 : Vec Ideal S128x1 .f32) (x5 : Vec Ideal S512x128 .f32) (x6 : Vec Ideal S512x1 .f32) (x7 : Vec Ideal S128x128 .f32)
    (x8 : Vec Ideal S16x128 .f32) (x9 : Vec Ideal S128x16 .f32) (x10 : Vec Ideal S128x1 .f32) (B : ℝ) (p : Params) (x : Fin 16 → ℝ)
    (q : Fin 2048) : Prop where
  h0 : ∀ f, x0 (ix2 f q) = (x f : EReal)
  h1 : ∀ j i, x1 (ix2 j i) = (p.W1 i j : EReal)
  h2 : ∀ j, x2 (ix2 j (0 : Fin 1)) = (p.b1 j : EReal)
  h3 : ∀ j i, x3 (ix2 j i) = (p.W2 i j : EReal)
  h4 : ∀ j, x4 (ix2 j (0 : Fin 1)) = (p.b2 j : EReal)
  h5 : ∀ (r : Fin 512) i, x5 (ix2 r i) = (p.W3 i ⟨permN r.val, permN_lt r.val r.isLt⟩ : EReal)
  h6 : ∀ r : Fin 512, x6 (ix2 r (0 : Fin 1)) = (p.b3 ⟨permN r.val, permN_lt r.val r.isLt⟩ : EReal)
  h7 : ∀ r c : Fin 128, x7 (ix2 r c) = if c.val / 8 = r.val / 8 ∧ c.val % 8 < r.val % 8 then (1 : EReal) else 0
  h8 : ∀ (f : Fin 16) (r : Fin 128), x8 (ix2 f r) = if r.val / 8 = f.val then (1 : EReal) else 0
  h9 : ∀ (r : Fin 128) (f : Fin 16), x9 (ix2 r f) = if r.val / 8 = f.val then (1 : EReal) else 0
  h10 : ∀ r : Fin 128, x10 (ix2 r (0 : Fin 1)) = ((if r.val % 8 = 7 then B else 0 : ℝ) : EReal)
  hB : 10 ≤ B

section

variable {x0 : Vec Ideal S16x2048 .f32} {x1 : Vec Ideal S64x16 .f32} {x2 : Vec Ideal S64x1 .f32} {x3 : Vec Ideal S128x64 .f32}
variable {x4 : Vec Ideal S128x1 .f32} {x5 : Vec Ideal S512x128 .f32} {x6 : Vec Ideal S512x1 .f32} {x7 : Vec Ideal S128x128 .f32}
variable {x8 : Vec Ideal S16x128 .f32} {x9 : Vec Ideal S128x16 .f32} {x10 : Vec Ideal S128x1 .f32} {B : ℝ} {p : Params} {x : Fin 16 → ℝ}
variable {q : Fin 2048} (H : Holds x0 x1 x2 x3 x4 x5 x6 x7 x8 x9 x10 B p x q)

/-- The larger of a coerced real number and zero. -/
theorem coe_max_zero (a : ℝ) : max (a : EReal) 0 = ((max a 0 : ℝ) : EReal) := coe_max a 0

include H in
/-- The logits of a block, in the kernel's order of rows. -/
theorem pay9_at (r : Fin 512) :
    k0_pay9 x0 x1 x2 x3 x4 x5 x6 (ix2 r q) = (logit p x ⟨permN r.val, permN_lt r.val r.isLt⟩ : EReal) := by
  pointwise [k0_pay9, k0_pay8]
  simp only [H.h0, H.h1, H.h2, H.h3, H.h4, H.h5, H.h6, ← EReal.coe_mul, ← EReal.coe_add, coe_sum, coe_max_zero]
  congr 1
  unfold logit hid2 hid1
  simp only [mul_comm]

/-- A logit of the widths, at its row. -/
theorem perm_w (l : Fin 400 → ℝ) (r : Fin 128) (s : Fin 512) (h : s.val = r.val) :
    l ⟨permN s.val, permN_lt s.val s.isLt⟩ = lw l (ft r) (bn r) := by
  unfold lw; congr 1; apply Fin.ext
  show permN s.val = r.val / 8 * 25 + r.val % 8
  unfold permN; rw [h, if_neg (by omega)]; omega

/-- A logit of the heights, at its row. -/
theorem perm_h (l : Fin 400 → ℝ) (r : Fin 128) (s : Fin 512) (h : s.val = 128 + r.val) :
    l ⟨permN s.val, permN_lt s.val s.isLt⟩ = lh l (ft r) (bn r) := by
  unfold lh; congr 1; apply Fin.ext
  show permN s.val = r.val / 8 * 25 + 8 + r.val % 8
  unfold permN; rw [h, if_neg (by omega)]; omega

/-- A logit of the left slopes, at its row. -/
theorem perm_l (l : Fin 400 → ℝ) (r : Fin 128) (s : Fin 512) (h : s.val = 256 + r.val) :
    l ⟨permN s.val, permN_lt s.val s.isLt⟩ = ls l (ft r) (bn r).castSucc := by
  unfold ls; congr 1; apply Fin.ext
  show permN s.val = r.val / 8 * 25 + 16 + r.val % 8
  unfold permN; rw [h, if_neg (by omega)]; omega

/-- A logit of the right slopes, at its row. -/
theorem perm_r (l : Fin 400 → ℝ) (r : Fin 128) (s : Fin 512) (h : s.val = 384 + r.val) :
    l ⟨permN s.val, permN_lt s.val s.isLt⟩ = ls l (ft r) (bn r).succ := by
  unfold ls; congr 1; apply Fin.ext
  show permN s.val = r.val / 8 * 25 + 16 + (r.val % 8 + 1)
  unfold permN; rw [h, if_pos (by omega)]; omega

include H in
/-- The shifted exponentials of the widths' logits. -/
theorem pay13_at (f : Fin 16) : ∃ M : ℝ, ∀ k, k0_pay13 x0 x1 x2 x3 x4 x5 x6 (ix3 f k q) = (Real.exp (lw (logit p x) f k - M) : EReal) := by
  have hl : ∀ (k : Fin 8) (h : f.val * 8 + k.val < 512), k0_pay9 x0 x1 x2 x3 x4 x5 x6 (ix2 ⟨f.val * 8 + k.val, h⟩ q) = (lw (logit p x) f k : EReal) := by
    intro k h
    rw [pay9_at H, perm_w (logit p x) ⟨f.val * 8 + k.val, by omega⟩ ⟨f.val * 8 + k.val, h⟩ rfl]
    have e1 : ft ⟨f.val * 8 + k.val, by omega⟩ = f := Fin.ext (by show (f.val * 8 + k.val) / 8 = f.val; omega)
    have e2 : bn ⟨f.val * 8 + k.val, by omega⟩ = k := Fin.ext (by show (f.val * 8 + k.val) % 8 = k.val; omega)
    rw [e1, e2]
  obtain ⟨M, hM⟩ := exists_fold_max Finset.univ Finset.univ_nonempty (lw (logit p x) f)
  refine ⟨M, fun k => ?_⟩
  pointwise [k0_pay13]
  simp only [hl, neg_inf_word, hM, ← EReal.coe_sub, exp_coe]

include H in
/-- The heights' logits. -/
theorem pay12_at (f : Fin 16) (k : Fin 8) : k0_pay12 x0 x1 x2 x3 x4 x5 x6 (ix3 f k q) = (lh (logit p x) f k : EReal) := by
  pointwise [k0_pay12]
  refine (pay9_at H _).trans ?_
  refine (congrArg _ (perm_h (logit p x) ⟨f.val * 8 + k.val, by omega⟩ _ rfl)).trans ?_
  have e1 : ft ⟨f.val * 8 + k.val, by omega⟩ = f := Fin.ext (by show (f.val * 8 + k.val) / 8 = f.val; omega)
  have e2 : bn ⟨f.val * 8 + k.val, by omega⟩ = k := Fin.ext (by show (f.val * 8 + k.val) % 8 = k.val; omega)
  rw [e1, e2]

include H in
/-- The left slopes' logits. -/
theorem pay10_at (r : Fin 128) : k0_pay10 x0 x1 x2 x3 x4 x5 x6 (ix2 r q) = (ls (logit p x) (ft r) (bn r).castSucc : EReal) := by
  pointwise [k0_pay10]
  exact (pay9_at H _).trans (congrArg _ (perm_l (logit p x) r _ rfl))

include H in
/-- The right slopes' logits. -/
theorem pay11_at (r : Fin 128) : k0_pay11 x0 x1 x2 x3 x4 x5 x6 (ix2 r q) = (ls (logit p x) (ft r) (bn r).succ : EReal) := by
  pointwise [k0_pay11]
  exact (pay9_at H _).trans (congrArg _ (perm_r (logit p x) r _ rfl))

include H in
/-- The points, as the later payloads read them. -/
theorem pay8_at (f : Fin 16) : k0_pay8 x0 (ix2 f q) = (x f : EReal) := by
  pointwise [k0_pay8]
  exact H.h0 f

include H in
/-- The widths. -/
theorem pay14_at' (r : Fin 128) : k0_pay14 (k0_pay13 x0 x1 x2 x3 x4 x5 x6) (ix2 r q) = (width (lw (logit p x) (ft r)) (bn r) : EReal) :=
  pay14_at q _ _ (pay13_at H) r

include H in
/-- The heights. -/
theorem pay15_at' (r : Fin 128) : k0_pay15 (k0_pay12 x0 x1 x2 x3 x4 x5 x6) (ix2 r q) = (width (lh (logit p x) (ft r)) (bn r) : EReal) :=
  pay15_at q _ _ (pay12_at H) r

include H in
/-- A block's first output window. -/
theorem out11_at (f : Fin 16) : out0_11 x0 x1 x2 x3 x4 x5 x6 x7 x8 x9 x10 (ix2 f q) = rowValue p x f := by
  unfold_out out0_11
  frame_out
  have hw := pay14_at' H
  have hh := pay15_at' H
  have hlo := pay16_at q _ x7 H.h7 (fun f => width (lw (logit p x) f)) hw
  have hlo' := pay17_at q _ x7 H.h7 (fun f => width (lh (logit p x) f)) hh
  have hup := pay18_at q _ x7 x10 H.h7 B H.h10 (fun f => width (lw (logit p x) f)) hw
  have hx := pay8_at H
  exact pay6_at q _ x hx (lw (logit p x)) (lh (logit p x)) (fun f k => ls (logit p x) f k.castSucc) (fun f k => ls (logit p x) f k.succ) _ _ _ _ _
    (pay24_at q _ x hx x8 x9 H.h8 H.h9 _ _ (lw (logit p x)) B H.hB hlo hup _ (fun f k => knot (width (lh (logit p x) f)) k.val) hlo')
    (pay25_at q _ x hx x8 x9 H.h8 H.h9 _ _ (lw (logit p x)) B H.hB hlo hup _ (fun f => width (lh (logit p x) f)) hh)
    (pay26_at q _ x hx x8 x9 H.h8 H.h9 _ _ (lw (logit p x)) B H.hB hlo hup _ (fun f k => ls (logit p x) f k.castSucc) (pay10_at H))
    (pay27_at q _ x hx x8 x9 H.h8 H.h9 _ _ (lw (logit p x)) B H.hB hlo hup _ (fun f k => ls (logit p x) f k.succ) (pay11_at H))
    (pay29_at q _ x hx x8 x9 H.h8 H.h9 _ _ (lw (logit p x)) B H.hB hlo hup _ hw) f

include H in
/-- A block's second output window. -/
theorem out12_at : out0_12 x0 x1 x2 x3 x4 x5 x6 x7 x8 x9 x10 (ix2 (0 : Fin 1) q) = rowLog' p x := by
  unfold_out out0_12
  frame_out
  have hw := pay14_at' H
  have hh := pay15_at' H
  have hlo := pay16_at q _ x7 H.h7 (fun f => width (lw (logit p x) f)) hw
  have hup := pay18_at q _ x7 x10 H.h7 B H.h10 (fun f => width (lw (logit p x) f)) hw
  have hx := pay8_at H
  exact pay7_at q _ x hx (lw (logit p x)) (lh (logit p x)) (fun f k => ls (logit p x) f k.castSucc) (fun f k => ls (logit p x) f k.succ) _ _ _ _
    (pay25_at q _ x hx x8 x9 H.h8 H.h9 _ _ (lw (logit p x)) B H.hB hlo hup _ (fun f => width (lh (logit p x) f)) hh)
    (pay26_at q _ x hx x8 x9 H.h8 H.h9 _ _ (lw (logit p x)) B H.hB hlo hup _ (fun f k => ls (logit p x) f k.castSucc) (pay10_at H))
    (pay27_at q _ x hx x8 x9 H.h8 H.h9 _ _ (lw (logit p x)) B H.hB hlo hup _ (fun f k => ls (logit p x) f k.succ) (pay11_at H))
    (pay29_at q _ x hx x8 x9 H.h8 H.h9 _ _ (lw (logit p x)) B H.hB hlo hup _ hw) _
    (pay28_at q _ x hx x8 x9 H.h8 H.h9 _ _ (lw (logit p x)) B H.hB hlo hup _ hw)

end

end Cert.Spline

end
-- ==== Proof.Tables.lean ====
/- The arrays that the region finds at its entry, as functions of the arguments. -/
module

public import proofs.«01_k».proof.Proof.Literals
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import Idealize.ShloMosaic.Lib.StableHlo.ReadAt
public import Idealize.ShloMosaic.Lib.Pointwise
public import Idealize.ShloMosaic.Lib.Routing.OpsSet

@[expose] public section

set_option maxRecDepth 16384

noncomputable section

namespace Cert.Spline

open Cert.KernelIdeal Cert.KernelIdeal.Gen Idealize.ShloMosaic Idealize.ShloMosaic.TcCoe

variable (m : (ℓ : Loc nD τ sig) → Buf (Elt Ideal) ℓ)

/-- The column of row numbers, after the wrap of negative numbers (there are none). -/
theorem idx_col (r : Fin 512) :
    (broadcastInDim S512x1 ![0] bcast_S512_S512x1_0
        (select
          (cmpi CmpIPredicate.slt (fun i => lit0 (S512.rowMajor i))
            (broadcastInDim S512 ![] bcast_S_S512 (constantI S_ 32 0#32)))
          (addi (fun i => lit0 (S512.rowMajor i)) (broadcastInDim S512 ![] bcast_S_S512 (constantI S_ 32 400#32)))
          fun i => lit0 (S512.rowMajor i))) (ix2 r (0 : Fin 1)) = BitVec.ofNat 32 (permN r.val) := by
  have hr := r.isLt
  have e : lit0 (S512.rowMajor (ix1 r)) = BitVec.ofNat 32 (permN r.val) := by
    have h := lit0_eq ⟨r.val / 128, by omega⟩ ⟨r.val % 128, by omega⟩
    have e1 : 128 * (r.val / 128) + r.val % 128 = r.val := by omega
    simp only [e1] at h
    rw [← h]; congr 1; apply Fin.ext; rw [Shape.rowMajor_val_one]; rfl
  pointwise []
  rw [e]
  have hp := permN_lt r.val hr
  have : (BitVec.ofNat 32 (permN r.val)).slt 0#32 = false := by
    rw [BitVec.slt_eq_decide]
    simp only [StableHlo.Predicate.toInt_ofNat_small _ (show permN r.val < 2 ^ 31 by omega)]
    simp
  simp [IntOp.cmpi, this, Scalar.select]

/-- The first operand of the launch is the transpose of the rows. -/
theorem V_x (c : Dev nD) (f : Fin 16) (n : Fin 131072) :
    V m c main_call0_v0 (ix2 f n) = m ((c.tc : Thread nD τ).loc main_arg0) (ix2 n f) := by
  unfold V V0
  after_reads_at

/-- The second operand is the transpose of the first weight matrix. -/
theorem V_w1 (c : Dev nD) (j : Fin 64) (k : Fin 16) :
    V m c main_call0_v1 (ix2 j k) = m ((c.tc : Thread nD τ).loc main_arg1) (ix2 k j) := by
  unfold V V0
  after_reads_at

/-- The fourth operand is the transpose of the second weight matrix. -/
theorem V_w2 (c : Dev nD) (j : Fin 128) (k : Fin 64) :
    V m c main_call0_v2 (ix2 j k) = m ((c.tc : Thread nD τ).loc main_arg3) (ix2 k j) := by
  unfold V V0
  after_reads_at

/-- The third operand is the first bias as one column. -/
theorem V_b1 (c : Dev nD) (j : Fin 64) :
    V m c main_call0_v11 (ix2 j (0 : Fin 1)) = m ((c.tc : Thread nD τ).loc main_arg2) (ix1 j) := by
  unfold V V0
  after_reads_at

/-- The fifth operand is the second bias as one column. -/
theorem V_b2 (c : Dev nD) (j : Fin 128) :
    V m c main_call0_v12 (ix2 j (0 : Fin 1)) = m ((c.tc : Thread nD τ).loc main_arg4) (ix1 j) := by
  unfold V V0
  after_reads_at

/-- The sixth operand is the transpose of the third weight matrix with its rows permuted. -/
theorem V_w3 (c : Dev nD) (r : Fin 512) (k : Fin 128) :
    V m c main_call0_v10 (ix2 r k) = m ((c.tc : Thread nD τ).loc main_arg5) (ix2 k ⟨permN r.val, permN_lt r.val r.isLt⟩) := by
  unfold V V0
  after_reads_at
  have h := idx_col r
  simp only [ix2_eq_valueIdx] at h ⊢
  rw [Routing.gather_row _ rfl rfl rfl rfl rfl _ _ r k ⟨permN r.val, permN_lt r.val r.isLt⟩ h (by omega)]
  simp only [← ix2_eq_valueIdx]
  pointwise []

/-- The seventh operand is the third bias with its entries permuted, as one column. -/
theorem V_b3 (c : Dev nD) (r : Fin 512) :
    V m c main_call0_v20 (ix2 r (0 : Fin 1)) = m ((c.tc : Thread nD τ).loc main_arg6) (ix1 ⟨permN r.val, permN_lt r.val r.isLt⟩) := by
  unfold V V0
  after_reads_at
  have h := idx_col r
  simp only [ix2_eq_valueIdx, ix1_eq_valueIdx] at h ⊢
  exact Routing.gather_take1 _ rfl rfl rfl rfl _ _ r ⟨permN r.val, permN_lt r.val r.isLt⟩ h (by omega)

/-- The literal one. -/
theorem one_word : (Ideal.ofBits .f32 0x3F800000#32 : EReal) = 1 := Ideal.ofBits_one_f32

/-- The literal zero. -/
theorem zero_word : (Ideal.ofBits .f32 0x00000000#32 : EReal) = 0 := Ideal.ofBits_zero_f32

/-- The eighth operand is the table of the earlier bins of the same feature. -/
theorem V_lt (c : Dev nD) (r q : Fin 128) :
    V m c main_call0_cst (ix2 r q) = if q.val / 8 = r.val / 8 ∧ q.val % 8 < r.val % 8 then (1 : EReal) else 0 := by
  unfold V V0
  after_reads_at
  have h := lit1_eq r q
  have e : S128x128.rowMajor (ix2 r q) = (⟨128 * r.val + q.val, by omega⟩ : Fin 16384) := by
    apply Fin.ext; rw [Shape.rowMajor_val_two]; exact (by omega : r.val * 128 + q.val = 128 * r.val + q.val)
  rw [e, h]
  split
  · exact one_word
  · exact zero_word

/-- The ninth operand is the table that sums the bins of one feature. -/
theorem V_sb (c : Dev nD) (f : Fin 16) (r : Fin 128) :
    V m c main_call0_cst_0 (ix2 f r) = if r.val / 8 = f.val then (1 : EReal) else 0 := by
  unfold V V0
  after_reads_at
  have h := lit2_eq f r
  have e : S16x128.rowMajor (ix2 f r) = (⟨128 * f.val + r.val, by omega⟩ : Fin 2048) := by
    apply Fin.ext; rw [Shape.rowMajor_val_two]; exact (by omega : f.val * 128 + r.val = 128 * f.val + r.val)
  rw [e, h]
  split
  · exact one_word
  · exact zero_word

/-- The tenth operand is the table that repeats a feature over its bins. -/
theorem V_bb (c : Dev nD) (r : Fin 128) (f : Fin 16) :
    V m c main_call0_cst_1 (ix2 r f) = if r.val / 8 = f.val then (1 : EReal) else 0 := by
  unfold V V0
  after_reads_at
  have h := lit3_eq r f
  have e : S128x16.rowMajor (ix2 r f) = (⟨16 * r.val + f.val, by omega⟩ : Fin 2048) := by
    apply Fin.ext; rw [Shape.rowMajor_val_two]; exact (by omega : r.val * 16 + f.val = 16 * r.val + f.val)
  rw [e, h]
  split
  · exact one_word
  · exact zero_word

/-- What the table `big` adds to the right end of the last bin. -/
def bigB : ℝ := 2 ^ 76 * 13234890

/-- The word of the large constant means the number `bigB`. -/
theorem big_word : (Ideal.ofBits .f32 0x7149F2CA#32 : EReal) = (bigB : ℝ) := by
  unfold bigB
  simp [Ideal.ofBits, Ideal.ieee, -EReal.coe_mul]
  norm_num

/-- The large constant is at least 10. -/
theorem ten_le_bigB : 10 ≤ bigB := by unfold bigB; norm_num

/-- The last operand holds the large constant at the last bin of every feature and zero elsewhere. -/
theorem V_big (c : Dev nD) (r : Fin 128) :
    V m c main_call0_cst_2 (ix2 r (0 : Fin 1)) = ((if r.val % 8 = 7 then bigB else 0 : ℝ) : EReal) := by
  unfold V V0
  after_reads_at
  have h := lit4_eq r
  have e : S128x1.rowMajor (ix2 r (0 : Fin 1)) = r := by
    apply Fin.ext; rw [Shape.rowMajor_val_two]; show r.val * 1 + 0 = _; omega
  rw [e, h]
  split
  · exact big_word
  · exact zero_word

end Cert.Spline

end
-- ==== Proof.Array.lean ====
/- What the kernel's two output arrays hold after the region: each column is the result of one row. -/
module

public import proofs.«01_k».proof.Proof.BlockOut
public import proofs.«01_k».proof.Proof.Tables

@[expose] public section

set_option maxRecDepth 16384

noncomputable section

namespace Cert.Spline

open Cert.KernelIdeal Cert.KernelIdeal.Gen Idealize.ShloMosaic Idealize.ShloMosaic.TcCoe

/-- The arguments are the real rows `X` and the real parameters `p`. -/
structure ArgsAre (a0 : (⟨2, ![131072, 16]⟩ : Shape).Idx → EReal) (a1 : (⟨2, ![16, 64]⟩ : Shape).Idx → EReal)
    (a2 : (⟨1, ![64]⟩ : Shape).Idx → EReal) (a3 : (⟨2, ![64, 128]⟩ : Shape).Idx → EReal) (a4 : (⟨1, ![128]⟩ : Shape).Idx → EReal)
    (a5 : (⟨2, ![128, 400]⟩ : Shape).Idx → EReal) (a6 : (⟨1, ![400]⟩ : Shape).Idx → EReal) (p : Params)
    (X : Fin 131072 → Fin 16 → ℝ) : Prop where
  h0 : ∀ n f, a0 (ix2 n f) = (X n f : EReal)
  h1 : ∀ i j, a1 (ix2 i j) = (p.W1 i j : EReal)
  h2 : ∀ j, a2 (ix1 j) = (p.b1 j : EReal)
  h3 : ∀ i j, a3 (ix2 i j) = (p.W2 i j : EReal)
  h4 : ∀ j, a4 (ix1 j) = (p.b2 j : EReal)
  h5 : ∀ i j, a5 (ix2 i j) = (p.W3 i j : EReal)
  h6 : ∀ j, a6 (ix1 j) = (p.b3 j : EReal)

variable (m : (ℓ : Loc nD τ sig) → Buf (Elt Ideal) ℓ) (c : Dev nD)

/-- The grid has 64 points. -/
theorem points (t : Fin cfg0.N) : t.val < 64 := lt_of_lt_of_eq t.isLt (by decide +kernel : cfg0.N = 64)

/-- The row that column `q` of block `t` holds. -/
def rowOf (t : Fin cfg0.N) (q : Fin 2048) : Fin 131072 := ⟨t.val * 2048 + q.val, by have := points t; omega⟩

/-- Block `t` of a window of columns is the `t`-th along the columns. -/
theorem index0 : ∀ t : Fin grid0.N, win0_0.index t = ![0, t.val] := by decide +kernel
/-- Output window 11 moves along the rows with the grid point. -/
theorem index11 : ∀ t : Fin grid0.N, win0_11.index t = ![0, t.val] := by decide +kernel
/-- Output window 12 moves along the rows with the grid point. -/
theorem index12 : ∀ t : Fin grid0.N, win0_12.index t = ![0, t.val] := by decide +kernel
/-- Input window 1 stays at the first block at every grid point. -/
theorem index1 : ∀ t : Fin grid0.N, win0_1.index t = ![0, 0] := by decide +kernel
/-- Input window 2 stays at the first block at every grid point. -/
theorem index2 : ∀ t : Fin grid0.N, win0_2.index t = ![0, 0] := by decide +kernel
/-- Input window 3 stays at the first block at every grid point. -/
theorem index3 : ∀ t : Fin grid0.N, win0_3.index t = ![0, 0] := by decide +kernel
/-- Input window 4 stays at the first block at every grid point. -/
theorem index4 : ∀ t : Fin grid0.N, win0_4.index t = ![0, 0] := by decide +kernel
/-- Input window 5 stays at the first block at every grid point. -/
theorem index5 : ∀ t : Fin grid0.N, win0_5.index t = ![0, 0] := by decide +kernel
/-- Input window 6 stays at the first block at every grid point. -/
theorem index6 : ∀ t : Fin grid0.N, win0_6.index t = ![0, 0] := by decide +kernel
/-- Input window 7 stays at the first block at every grid point. -/
theorem index7 : ∀ t : Fin grid0.N, win0_7.index t = ![0, 0] := by decide +kernel
/-- Input window 8 stays at the first block at every grid point. -/
theorem index8 : ∀ t : Fin grid0.N, win0_8.index t = ![0, 0] := by decide +kernel
/-- Input window 9 stays at the first block at every grid point. -/
theorem index9 : ∀ t : Fin grid0.N, win0_9.index t = ![0, 0] := by decide +kernel
/-- Input window 10 stays at the first block at every grid point. -/
theorem index10 : ∀ t : Fin grid0.N, win0_10.index t = ![0, 0] := by decide +kernel

/-- The points' block holds its rows as columns. -/
theorem blk0 (t : Fin cfg0.N) (f : Fin 16) (q : Fin 2048) : iblk m c 0 t (ix2 f q) = V m c main_call0_v0 (ix2 f (rowOf t q)) := by
  blk_ext [iblk, index0 t, rowOf]

/-- Window 1 is its whole array at every point. -/
theorem blk1 (t : Fin cfg0.N) (j : Fin 64) (i : Fin 16) : iblk m c 1 t (ix2 j i) = V m c main_call0_v1 (ix2 j i) := by
  blk_ext [iblk, index1 t]

/-- Window 2 is its whole array at every point. -/
theorem blk2 (t : Fin cfg0.N) (j : Fin 64) (i : Fin 1) : iblk m c 2 t (ix2 j i) = V m c main_call0_v11 (ix2 j i) := by
  blk_ext [iblk, index2 t]

/-- Window 3 is its whole array at every point. -/
theorem blk3 (t : Fin cfg0.N) (j : Fin 128) (i : Fin 64) : iblk m c 3 t (ix2 j i) = V m c main_call0_v2 (ix2 j i) := by
  blk_ext [iblk, index3 t]

/-- Window 4 is its whole array at every point. -/
theorem blk4 (t : Fin cfg0.N) (j : Fin 128) (i : Fin 1) : iblk m c 4 t (ix2 j i) = V m c main_call0_v12 (ix2 j i) := by
  blk_ext [iblk, index4 t]

/-- Window 5 is its whole array at every point. -/
theorem blk5 (t : Fin cfg0.N) (j : Fin 512) (i : Fin 128) : iblk m c 5 t (ix2 j i) = V m c main_call0_v10 (ix2 j i) := by
  blk_ext [iblk, index5 t]

/-- Window 6 is its whole array at every point. -/
theorem blk6 (t : Fin cfg0.N) (j : Fin 512) (i : Fin 1) : iblk m c 6 t (ix2 j i) = V m c main_call0_v20 (ix2 j i) := by
  blk_ext [iblk, index6 t]

/-- Window 7 is its whole array at every point. -/
theorem blk7 (t : Fin cfg0.N) (j : Fin 128) (i : Fin 128) : iblk m c 7 t (ix2 j i) = V m c main_call0_cst (ix2 j i) := by
  blk_ext [iblk, index7 t]

/-- Window 8 is its whole array at every point. -/
theorem blk8 (t : Fin cfg0.N) (j : Fin 16) (i : Fin 128) : iblk m c 8 t (ix2 j i) = V m c main_call0_cst_0 (ix2 j i) := by
  blk_ext [iblk, index8 t]

/-- Window 9 is its whole array at every point. -/
theorem blk9 (t : Fin cfg0.N) (j : Fin 128) (i : Fin 16) : iblk m c 9 t (ix2 j i) = V m c main_call0_cst_1 (ix2 j i) := by
  blk_ext [iblk, index9 t]

/-- Window 10 is its whole array at every point. -/
theorem blk10 (t : Fin cfg0.N) (j : Fin 128) (i : Fin 1) : iblk m c 10 t (ix2 j i) = V m c main_call0_cst_2 (ix2 j i) := by
  blk_ext [iblk, index10 t]

variable {p : Params} {X : Fin 131072 → Fin 16 → ℝ}

/-- The arguments at a launch of the kernel. -/
abbrev KArgs (m : (ℓ : Loc nD τ sig) → Buf (Elt Ideal) ℓ) (c : Dev nD) (p : Params) (X : Fin 131072 → Fin 16 → ℝ) : Prop :=
  ArgsAre (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) p X

/-- What the input windows hold at point `t` and column `q`. -/
theorem holds (H : KArgs m c p X) (t : Fin cfg0.N) (q : Fin 2048) :
    Holds (iblk m c 0 t) (iblk m c 1 t) (iblk m c 2 t) (iblk m c 3 t) (iblk m c 4 t) (iblk m c 5 t) (iblk m c 6 t) (iblk m c 7 t)
      (iblk m c 8 t) (iblk m c 9 t) (iblk m c 10 t) bigB p (X (rowOf t q)) q where
  h0 f := (blk0 m c t f q).trans ((V_x m c f _).trans (H.h0 _ f))
  h1 j i := (blk1 m c t j i).trans ((V_w1 m c j i).trans (H.h1 i j))
  h2 j := (blk2 m c t j 0).trans ((V_b1 m c j).trans (H.h2 j))
  h3 j i := (blk3 m c t j i).trans ((V_w2 m c j i).trans (H.h3 i j))
  h4 j := (blk4 m c t j 0).trans ((V_b2 m c j).trans (H.h4 j))
  h5 r i := (blk5 m c t r i).trans ((V_w3 m c r i).trans (H.h5 i _))
  h6 r := (blk6 m c t r 0).trans ((V_b3 m c r).trans (H.h6 _))
  h7 r x := (blk7 m c t r x).trans (V_lt m c r x)
  h8 f r := (blk8 m c t f r).trans (V_sb m c f r)
  h9 r f := (blk9 m c t r f).trans (V_bb m c r f)
  h10 r := (blk10 m c t r 0).trans (V_big m c r)
  hB := ten_le_bigB

/-- The first output array after the region: entry `(f, n)` is the transformed entry `f` of row `n`. -/
theorem final11 (H : KArgs m c p X) :
    (dats m 0 c).arrAt 11 (cfgs 0).N = fun i : S16x131072.Idx => rowValue p (X (i 1)) (i 0) := by
  refine (dats m 0 c).arrAt_eq_of_covers 11 _ (by decide +kernel) fun t hf y => ?_
  blk_simp
  rw [after0_11]
  idx_vars y
  have e : (win0_11.blk t).view.emb (ix2 y0 y1) = ix2 y0 (rowOf t y1) := by blk_ext [index11 t, rowOf]
  refine (out11_at (holds m c H t y1) y0).trans ?_
  show _ = rowValue p (X ((win0_11.blk t).view.emb (ix2 y0 y1) 1)) ((win0_11.blk t).view.emb (ix2 y0 y1) 0)
  rw [e]
  rfl

/-- The second output array after the region: entry `(0, n)` is the sum of logarithms of row `n`. -/
theorem final12 (H : KArgs m c p X) :
    (dats m 0 c).arrAt 12 (cfgs 0).N = fun i : S1x131072.Idx => rowLog' p (X (i 1)) := by
  refine (dats m 0 c).arrAt_eq_of_covers 12 _ (by decide +kernel) fun t hf y => ?_
  blk_simp
  rw [after0_12]
  idx_vars y
  have hy : y0 = (0 : Fin 1) := Subsingleton.elim _ _
  subst hy
  have e : (win0_12.blk t).view.emb (ix2 (0 : Fin 1) y1) = ix2 (0 : Fin 1) (rowOf t y1) := by blk_ext [index12 t, rowOf]
  refine (out12_at (holds m c H t y1)).trans ?_
  show _ = rowLog' p (X ((win0_12.blk t).view.emb (ix2 (0 : Fin 1) y1) 1))
  rw [e]
  rfl

/-- The windows' arrays are distinct. -/
theorem arr_inj : Function.Injective (Pipeline.arrRef (cfgs 0).spec) := by decide +kernel

/-- The first result after the host's transpose. -/
theorem tail0 (H : KArgs m c p X) (n : Fin 131072) (f : Fin 16) :
    Pipeline.afterTail₀ cfgs (dats m) 0 (V0 m) [hostOps1] c main_v0_0 (ix2 n f) = rowValue p (X n) f := by
  unfold Pipeline.afterTail₀
  after_reads_at
  have h := Pipeline.withArrays_arr (cfgs 0).spec arr_inj c (V0 m c) (fun w => (dats m 0 c).arrAt w (cfgs 0).N) 11
  rw [final11 m c H] at h
  exact congrFun h (ix2 f n)

/-- The second result after the host's reshape. -/
theorem tail1 (H : KArgs m c p X) (n : Fin 131072) :
    Pipeline.afterTail₀ cfgs (dats m) 0 (V0 m) [hostOps1] c main_v0_1 (ix1 n) = rowLog' p (X n) := by
  unfold Pipeline.afterTail₀
  after_reads_at
  have h := Pipeline.withArrays_arr (cfgs 0).spec arr_inj c (V0 m c) (fun w => (dats m 0 c).arrAt w (cfgs 0).N) 12
  rw [final12 m c H] at h
  exact congrFun h (ix2 (0 : Fin 1) n)

/-- The kernel's run from real arguments: the two results of every row, the arguments unchanged. -/
theorem kernel_run (ρ : Dev nD → PrngReg) (P : Dev nD → Params) (Y : Dev nD → Fin 131072 → Fin 16 → ℝ) (H : ∀ c, KArgs m c (P c) (Y c)) :
    θ_run defs (onTc (τ := τ) (main (F := Ideal))) ⟨m, fun _ => 0, ρ⟩ (fun r => ∀ c : Dev nD,
      (∀ n f, r.2.mem ((c.tc : Thread nD τ).loc main_v0_0) (ix2 n f) = rowValue (P c) (Y c n) f)
      ∧ (∀ n, r.2.mem ((c.tc : Thread nD τ).loc main_v0_1) (ix1 n) = rowLog' (P c) (Y c n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨fun n f => (congrFun ((h c).2 main_v0_0 (Pipeline.mem_restRefs_of main_v0_0 (by decide) (by decide))) (ix2 n f)).trans (tail0 m c (H c) n f),
     fun n => (congrFun ((h c).2 main_v0_1 (Pipeline.mem_restRefs_of main_v0_1 (by decide) (by decide))) (ix1 n)).trans (tail1 m c (H c) n),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩)
    (run_main m ρ)

end Cert.Spline

end
-- ==== Proof.Finite.lean ====
/- Finite arguments are arrays of real numbers. -/
module

public import proofs.«01_k».proof.Proof.Array
public import proofs.«01_k».proof.Defs
public import proofs.«01_k».proof.Proof.Gen.Pre_finite

@[expose] public section

noncomputable section

namespace Cert.Spline

open Idealize.ShloMosaic

/-- The float word of plus infinity means plus infinity. -/
theorem inf_word : Ideal.ofBits .f32 0x7F800000#32 = (⊤ : EReal) := by
  simp [Ideal.ofBits, Ideal.ieee]

/-- An extended real whose absolute value is below plus infinity is a real number. -/
theorem coe_toReal_of_abs_lt (x : EReal) (h : max x (-x) < ⊤) : x = ((x.toReal : ℝ) : EReal) := by
  refine (EReal.coe_toReal ?_ ?_).symm
  · rintro rfl
    exact absurd (lt_of_le_of_lt (le_max_left _ _) h) (lt_irrefl _)
  · rintro rfl
    rw [EReal.neg_bot] at h
    exact absurd (lt_of_le_of_lt (le_max_right _ _) h) (lt_irrefl _)

/-- Every entry of an array passes the comparison of its absolute value with plus infinity: every entry is a real number. -/
theorem entry_real {s : Shape} (a : FVec Ideal s .f32) (hb : Cert.Pre_finite.S_.BroadcastsInDim s (![] : Fin 0 → Fin s.rank))
    (h : cmpf .olt (Host.absf a) (broadcastInDim s ![] hb (constant (F := Ideal) Cert.Pre_finite.S_ .f32 0x7F800000#32)) = fun _ => 1#1)
    (i : s.Idx) : (a i : EReal) = ((EReal.toReal (a i) : ℝ) : EReal) := by
  have h1 : BitVec.ofBool (decide (max (a i : EReal) (-(a i : EReal)) < Ideal.ofBits .f32 0x7F800000#32)) = 1#1 := congrFun h i
  rw [inf_word] at h1
  refine coe_toReal_of_abs_lt _ ?_
  by_contra hn
  rw [decide_eq_false hn] at h1
  exact absurd h1 (by decide)

open Cert.KernelIdeal in
/-- The parameters of the network that a launch of the kernel is given. -/
def launchParams (m : (ℓ : Loc nD τ sig) → Buf (Elt Ideal) ℓ) (c : Dev nD) : Params where
  W1 i j := EReal.toReal (m ((c.tc : Thread nD τ).loc main_arg1) (ix2 i j))
  b1 j := EReal.toReal (m ((c.tc : Thread nD τ).loc main_arg2) (ix1 j))
  W2 i j := EReal.toReal (m ((c.tc : Thread nD τ).loc main_arg3) (ix2 i j))
  b2 j := EReal.toReal (m ((c.tc : Thread nD τ).loc main_arg4) (ix1 j))
  W3 i j := EReal.toReal (m ((c.tc : Thread nD τ).loc main_arg5) (ix2 i j))
  b3 j := EReal.toReal (m ((c.tc : Thread nD τ).loc main_arg6) (ix1 j))

open Cert.KernelIdeal in
/-- The rows that a launch of the kernel is given. -/
def launchRows (m : (ℓ : Loc nD τ sig) → Buf (Elt Ideal) ℓ) (c : Dev nD) : Fin 131072 → Fin 16 → ℝ :=
  fun n f => EReal.toReal (m ((c.tc : Thread nD τ).loc main_arg0) (ix2 n f))

/-- A launch from finite arguments has real arguments: those `launchParams` and `launchRows` name. -/
theorem finite_args (m : (ℓ : Loc Cert.KernelIdeal.nD Cert.KernelIdeal.τ Cert.KernelIdeal.sig) → Buf (Elt Ideal) ℓ)
    (h : Cert.Pre_KernelIdeal_finite m) (c : Dev Cert.KernelIdeal.nD) : KArgs m c (launchParams m c) (launchRows m c) := by
  obtain ⟨e0, e1, e2, e3, e4, e5, e6⟩ := h c
  exact
    { h0 := fun n f => entry_real _ _ e0 (ix2 n f)
      h1 := fun i j => entry_real _ _ e1 (ix2 i j)
      h2 := fun j => entry_real _ _ e2 (ix1 j)
      h3 := fun i j => entry_real _ _ e3 (ix2 i j)
      h4 := fun j => entry_real _ _ e4 (ix1 j)
      h5 := fun i j => entry_real _ _ e5 (ix2 i j)
      h6 := fun j => entry_real _ _ e6 (ix1 j) }

end Cert.Spline

end
-- ==== Proof.RefTop.lean ====
/- The greatest logit of a feature, as the reference reduces it, over any array of its shape. -/
module

public import proofs.«01_k».proof.Proof.Array
public import proofs.«01_k».proof.Proof.Gen.ReferenceIdeal.Read
public import Idealize.ShloMosaic.Lib.Pointwise

@[expose] public section

set_option maxRecDepth 16384

noncomputable section

namespace Cert.Spline

open Cert.ReferenceIdeal Cert.ReferenceIdeal.Gen Cert.ReferenceIdeal.Read Idealize.ShloMosaic

/-- The host's maximum over the last axis is the running maximum over its eight entries. -/
theorem host_max (x : S131072x16x8.Idx → EReal) (init : S_.Idx → EReal) (n : Fin 131072) (f : Fin 16) :
    Host.reduce (α := EReal) (FloatOps.maximumf (F := Ideal) (φ := .f32)) x init reducesTo_S131072x16x8_S131072x16_d2 h_S_ (ix2 n f)
      = Finset.fold max (init ix0) (fun k => x (ix3 n f k)) Finset.univ := by
  pointwise []
  rw [show Shape.Idx.first h_S_ = ix0 from funext fun a => a.elim0]

/-- Where every entry is a real number, so is their maximum taken from minus infinity. -/
theorem host_max_real (x : S131072x16x8.Idx → EReal) (init : S_.Idx → EReal) (hi : init ix0 = ⊥) (n : Fin 131072) (f : Fin 16)
    (u : Fin 8 → ℝ) (hu : ∀ k, x (ix3 n f k) = (u k : EReal)) :
    ∃ M : ℝ, Host.reduce (α := EReal) (FloatOps.maximumf (F := Ideal) (φ := .f32)) x init reducesTo_S131072x16x8_S131072x16_d2 h_S_
      (ix2 n f) = (M : EReal) := by
  obtain ⟨M, hM⟩ := exists_fold_max Finset.univ Finset.univ_nonempty u
  refine ⟨M, (host_max x init n f).trans ?_⟩
  simp only [hu, hi, hM]

variable {a0 : (⟨2, ![131072, 16]⟩ : Shape).Idx → EReal} {a1 : (⟨2, ![16, 64]⟩ : Shape).Idx → EReal}
  {a2 : (⟨1, ![64]⟩ : Shape).Idx → EReal} {a3 : (⟨2, ![64, 128]⟩ : Shape).Idx → EReal} {a4 : (⟨1, ![128]⟩ : Shape).Idx → EReal}
  {a5 : (⟨2, ![128, 400]⟩ : Shape).Idx → EReal} {a6 : (⟨1, ![400]⟩ : Shape).Idx → EReal}

/-- The number the reference subtracts from the logits of the widths is a real number. -/
theorem ref_top_w (n : Fin 131072) (f : Fin 16) (u : Fin 8 → ℝ)
    (hu : ∀ k, val_main_v15 (F := Ideal) a0 a1 a2 a3 a4 a5 a6 (ix3 n f k) = (u k : EReal)) :
    ∃ M : ℝ, val_main_v18 (F := Ideal) a0 a1 a2 a3 a4 a5 a6 (ix2 n f) = (M : EReal) := by
  obtain ⟨M, hM⟩ := host_max_real (val_main_v15 (F := Ideal) a0 a1 a2 a3 a4 a5 a6) (val_main_cst (F := Ideal)) neg_inf_word n f u hu
  refine ⟨M, ?_⟩
  have h17 : val_main_v17 (F := Ideal) (ix2 n f) = (⊥ : EReal) := neg_inf_word
  rw [val_main_v18_apply, h17]
  exact (max_eq_right bot_le).trans hM

/-- The number the reference subtracts from the logits of the heights is a real number. -/
theorem ref_top_h (n : Fin 131072) (f : Fin 16) (u : Fin 8 → ℝ)
    (hu : ∀ k, val_main_v27 (F := Ideal) a0 a1 a2 a3 a4 a5 a6 (ix3 n f k) = (u k : EReal)) :
    ∃ M : ℝ, val_main_v30 (F := Ideal) a0 a1 a2 a3 a4 a5 a6 (ix2 n f) = (M : EReal) := by
  obtain ⟨M, hM⟩ := host_max_real (val_main_v27 (F := Ideal) a0 a1 a2 a3 a4 a5 a6) (val_main_cst_2 (F := Ideal)) neg_inf_word n f u hu
  refine ⟨M, ?_⟩
  have h17 : val_main_v29 (F := Ideal) (ix2 n f) = (⊥ : EReal) := neg_inf_word
  rw [val_main_v30_apply, h17]
  exact (max_eq_right bot_le).trans hM

end Cert.Spline

end
-- ==== Proof.RefNet.lean ====
/- The reference's logits, widths and slopes, read at an index as coerced real numbers. -/
module

public import proofs.«01_k».proof.Proof.RefTop
public import proofs.«01_k».proof.Proof.Gen.ReferenceIdeal.Read
public import Idealize.ShloMosaic.Lib.Pointwise

@[expose] public section

set_option maxRecDepth 16384

noncomputable section

open Classical

namespace Cert.Spline

open Cert.ReferenceIdeal Cert.ReferenceIdeal.Gen Cert.ReferenceIdeal.Read Idealize.ShloMosaic

/-- The word of six. -/
theorem six_word : (Ideal.ofBits .f32 0x40C00000#32 : EReal) = ((6 : ℝ) : EReal) := by
  simp [Ideal.ofBits, Ideal.ieee, -EReal.coe_mul]
  norm_num

/-- The word of eight. -/
theorem eight_word : (Ideal.ofBits .f32 0x41000000#32 : EReal) = ((8 : ℝ) : EReal) := by
  simp [Ideal.ofBits, Ideal.ieee, -EReal.coe_mul]
  norm_num

variable {a0 : (⟨2, ![131072, 16]⟩ : Shape).Idx → EReal} {a1 : (⟨2, ![16, 64]⟩ : Shape).Idx → EReal}
  {a2 : (⟨1, ![64]⟩ : Shape).Idx → EReal} {a3 : (⟨2, ![64, 128]⟩ : Shape).Idx → EReal} {a4 : (⟨1, ![128]⟩ : Shape).Idx → EReal}
  {a5 : (⟨2, ![128, 400]⟩ : Shape).Idx → EReal} {a6 : (⟨1, ![400]⟩ : Shape).Idx → EReal} {p : Params}
  {X : Fin 131072 → Fin 16 → ℝ} (H : ArgsAre a0 a1 a2 a3 a4 a5 a6 p X)

include H

/-- The reference's first hidden layer. -/
theorem ref_hid1 (n : Fin 131072) (j : Fin 64) :
    val_main_v4 (F := Ideal) a0 a1 a2 (ix2 n j) = (hid1 p (X n) j : EReal) := by
  pointwise [val_main_v4, val_main_v3, val_main_v2, val_main_v1, val_main_v0, val_main_call0_v0, val_main_call0_cst]
  simp only [H.h0, H.h1, H.h2, ← EReal.coe_mul]
  rw [coe_sum, ← EReal.coe_add]
  exact coe_max_zero _

/-- The reference's second hidden layer. -/
theorem ref_hid2 (n : Fin 131072) (j : Fin 128) :
    val_main_v9 (F := Ideal) a0 a1 a2 a3 a4 (ix2 n j) = (hid2 p (X n) j : EReal) := by
  pointwise [val_main_v9, val_main_v8, val_main_v7, val_main_v6, val_main_v5, val_main_call1_v0, val_main_call1_cst]
  simp only [ref_hid1 H, H.h3, H.h4, ← EReal.coe_mul]
  rw [coe_sum, ← EReal.coe_add]
  exact coe_max_zero _

/-- The reference's logits. -/
theorem ref_logit (n : Fin 131072) (j : Fin 400) :
    val_main_v13 (F := Ideal) a0 a1 a2 a3 a4 a5 a6 (ix2 n j) = (logit p (X n) j : EReal) := by
  pointwise [val_main_v13, val_main_v12, val_main_v11, val_main_v10]
  simp only [ref_hid2 H, H.h5, H.h6, ← EReal.coe_mul]
  rw [coe_sum, ← EReal.coe_add]
  rfl

/-- The logits of a feature's widths. -/
theorem ref_lw (n : Fin 131072) (f : Fin 16) (k : Fin 8) :
    val_main_v15 (F := Ideal) a0 a1 a2 a3 a4 a5 a6 (ix3 n f k) = (lw (logit p (X n)) f k : EReal) := by
  pointwise [val_main_v15, val_main_v14]
  exact ref_logit H n _

/-- The logits of a feature's heights. -/
theorem ref_lh (n : Fin 131072) (f : Fin 16) (k : Fin 8) :
    val_main_v27 (F := Ideal) a0 a1 a2 a3 a4 a5 a6 (ix3 n f k) = (lh (logit p (X n)) f k : EReal) := by
  pointwise [val_main_v27, val_main_v14]
  refine (ref_logit H n _).trans (congrArg _ (congrArg _ (Fin.ext ?_)))
  simp <;> omega

/-- The logits of a feature's slopes. -/
theorem ref_ls (n : Fin 131072) (f : Fin 16) (j : Fin 9) :
    val_main_v39 (F := Ideal) a0 a1 a2 a3 a4 a5 a6 (ix3 n f j) = (ls (logit p (X n)) f j : EReal) := by
  pointwise [val_main_v39, val_main_v14]
  refine (ref_logit H n _).trans (congrArg _ (congrArg _ (Fin.ext ?_)))
  simp <;> omega

/-- The exponentials of the shifted logits of the widths. -/
theorem ref_exp_w (n : Fin 131072) (f : Fin 16) :
    ∃ M : ℝ, ∀ k, val_main_v22 (F := Ideal) a0 a1 a2 a3 a4 a5 a6 (ix3 n f k) = (Real.exp (lw (logit p (X n)) f k - M) : EReal) := by
  obtain ⟨M, hM⟩ := ref_top_w n f _ (ref_lw H n f)
  refine ⟨M, fun k => ?_⟩
  pointwise [val_main_v22, val_main_v21, val_main_v20, val_main_v19]
  rw [ref_lw H, hM, ← EReal.coe_sub]
  exact exp_coe _

/-- The softmax of the logits of the widths. -/
theorem ref_soft_w (n : Fin 131072) (f : Fin 16) :
    ∃ M : ℝ, ∀ k, val_main_v26 (F := Ideal) a0 a1 a2 a3 a4 a5 a6 (ix3 n f k)
      = ((Real.exp (lw (logit p (X n)) f k - M) / (∑ j, Real.exp (lw (logit p (X n)) f j - M)) : ℝ) : EReal) := by
  obtain ⟨M, hM⟩ := ref_exp_w H n f
  refine ⟨M, fun k => ?_⟩
  pointwise [val_main_v26, val_main_v25, val_main_v24, val_main_v23, val_main_cst_1]
  simp only [hM]
  rw [coe_sum]
  exact div_coe_coe _ _ (sum_exp_pos (fun j => lw (logit p (X n)) f j - M)).ne'

/-- The reference's widths. -/
theorem ref_width (n : Fin 131072) (f : Fin 16) (k : Fin 8) :
    val_main_v52 (F := Ideal) a0 a1 a2 a3 a4 a5 a6 (ix3 n f k) = (width (lw (logit p (X n)) f) k : EReal) := by
  obtain ⟨M, hM⟩ := ref_soft_w H n f
  pointwise [val_main_v52, val_main_v51, val_main_cst_11, val_main_v50, val_main_v49, val_main_v48, val_main_cst_10, val_main_v47, val_main_cst_8, val_main_cst_9, val_main_v44, val_main_v43, val_main_cst_6]
  rw [hM, six_word, eight_word, least_word, ← EReal.coe_one, ← EReal.coe_mul, ← EReal.coe_mul, ← EReal.coe_sub, ← EReal.coe_mul,
    ← EReal.coe_add]
  exact congrArg _ (width_stepwise _ M k)

/-- The exponentials of the shifted logits of the heights. -/
theorem ref_exp_h (n : Fin 131072) (f : Fin 16) :
    ∃ M : ℝ, ∀ k, val_main_v34 (F := Ideal) a0 a1 a2 a3 a4 a5 a6 (ix3 n f k) = (Real.exp (lh (logit p (X n)) f k - M) : EReal) := by
  obtain ⟨M, hM⟩ := ref_top_h n f _ (ref_lh H n f)
  refine ⟨M, fun k => ?_⟩
  pointwise [val_main_v34, val_main_v33, val_main_v32, val_main_v31]
  rw [ref_lh H, hM, ← EReal.coe_sub]
  exact exp_coe _

/-- The softmax of the logits of the heights. -/
theorem ref_soft_h (n : Fin 131072) (f : Fin 16) :
    ∃ M : ℝ, ∀ k, val_main_v38 (F := Ideal) a0 a1 a2 a3 a4 a5 a6 (ix3 n f k)
      = ((Real.exp (lh (logit p (X n)) f k - M) / (∑ j, Real.exp (lh (logit p (X n)) f j - M)) : ℝ) : EReal) := by
  obtain ⟨M, hM⟩ := ref_exp_h H n f
  refine ⟨M, fun k => ?_⟩
  pointwise [val_main_v38, val_main_v37, val_main_v36, val_main_v35, val_main_cst_4]
  simp only [hM]
  rw [coe_sum]
  exact div_coe_coe _ _ (sum_exp_pos (fun j => lh (logit p (X n)) f j - M)).ne'

/-- The reference's heights. -/
theorem ref_height (n : Fin 131072) (f : Fin 16) (k : Fin 8) :
    val_main_v58 (F := Ideal) a0 a1 a2 a3 a4 a5 a6 (ix3 n f k) = (width (lh (logit p (X n)) f) k : EReal) := by
  obtain ⟨M, hM⟩ := ref_soft_h H n f
  pointwise [val_main_v58, val_main_v57, val_main_cst_15, val_main_v56, val_main_v55, val_main_v54, val_main_cst_14, val_main_v53, val_main_cst_12, val_main_cst_13, val_main_v46, val_main_v45, val_main_cst_7]
  rw [hM, six_word, eight_word, least_word, ← EReal.coe_one, ← EReal.coe_mul, ← EReal.coe_mul, ← EReal.coe_sub, ← EReal.coe_mul,
    ← EReal.coe_add]
  exact congrArg _ (width_stepwise _ M k)

/-- The reference's slopes. -/
theorem ref_slope (n : Fin 131072) (f : Fin 16) (j : Fin 9) :
    val_main_v42 (F := Ideal) a0 a1 a2 a3 a4 a5 a6 (ix3 n f j) = (slope (ls (logit p (X n)) f j) : EReal) := by
  pointwise [val_main_v42, val_main_v41, val_main_cst_5, val_main_v40, val_main_call2_v11, val_main_call2_v10, val_main_call2_v9,
    val_main_call2_v8, val_main_call2_v7, val_main_call2_v6, val_main_call2_v5, val_main_call2_v4, val_main_call2_v3,
    val_main_call2_v2, val_main_call2_v1, val_main_call2_v0, val_main_call2_cst]
  rw [if_neg (not_not.mpr rfl), ref_ls H, least_word]
  refine Eq.trans ?_ (slope_coe _)
  rw [zero_sub]
  rfl

end Cert.Spline

end
-- ==== Proof.RefOps.lean ====
/- The reference's less common operations over any arrays of its shapes: an entry picked along the last axis, a running
   sum along the last axis, and a count of marks. -/
module

public import proofs.«01_k».proof.Proof.Elem
public import proofs.«01_k».proof.Proof.Gen.ReferenceIdeal.Run
public import Idealize.ShloMosaic.Lib.Pointwise
public import Idealize.ShloMosaic.Lib.Routing.Ops

@[expose] public section

set_option maxRecDepth 16384

noncomputable section

namespace Cert.Spline

open Cert.ReferenceIdeal Cert.ReferenceIdeal.Gen Idealize.ShloMosaic

/-- An entry picked along the last axis of length 9: the entry that the index names. -/
theorem gather_last9 (x : S131072x16x9.Idx → EReal) (idx : IVec S131072x16x1x1 32) (n : Fin 131072) (f : Fin 16) (b : Fin 9)
    (hb : idx (ix4 n f (0 : Fin 1) (0 : Fin 1)) = BitVec.ofNat 32 b.val) :
    Host.gather gather_S131072x16x9_S131072x16x1x1_S131072x16x1_n_2_01_01_2_3_111 x idx (ix3 n f (0 : Fin 1)) = x (ix3 n f b) := by
  unfold Host.gather
  refine congrArg x (funext fun a => Fin.ext ?_)
  set d := gather_S131072x16x9_S131072x16x1x1_S131072x16x1_n_2_01_01_2_3_111 with hd
  match a with
  | ⟨0, _⟩ =>
    have hm : (0 : Fin 3) ∈ d.operandBatchingDims := by rw [hd]; decide
    have hk : (0 : Fin 3) ∉ d.sKept := fun h => ((d.mem_sKept 0).1 h).2 hm
    show d.start (ix3 n f (0 : Fin 1)) idx 0 + d.batchCoord (ix3 n f (0 : Fin 1)) 0 + d.offCoord (ix3 n f (0 : Fin 1)) 0 = n.val
    rw [d.start_batching _ _ _ hm, d.offCoord_eq_zero _ _ hk, Nat.zero_add, Nat.add_zero]
    rfl
  | ⟨1, _⟩ =>
    have hm : (1 : Fin 3) ∈ d.operandBatchingDims := by rw [hd]; decide
    have hk : (1 : Fin 3) ∉ d.sKept := fun h => ((d.mem_sKept 1).1 h).2 hm
    show d.start (ix3 n f (0 : Fin 1)) idx 1 + d.batchCoord (ix3 n f (0 : Fin 1)) 1 + d.offCoord (ix3 n f (0 : Fin 1)) 1 = f.val
    rw [d.start_batching _ _ _ hm, d.offCoord_eq_zero _ _ hk, Nat.zero_add, Nat.add_zero]
    rfl
  | ⟨2, _⟩ =>
    have hm : (2 : Fin 3) ∈ d.startIndexMap := by rw [hd]; decide
    have hc : (2 : Fin 3) ∈ d.collapsedSliceDims := by rw [hd]; decide
    have hk : (2 : Fin 3) ∉ d.sKept := fun h => ((d.mem_sKept 2).1 h).1 hc
    have hb' : (2 : Fin 3) ∉ d.operandBatchingDims := by rw [hd]; decide
    show d.start (ix3 n f (0 : Fin 1)) idx 2 + d.batchCoord (ix3 n f (0 : Fin 1)) 2 + d.offCoord (ix3 n f (0 : Fin 1)) 2 = b.val
    rw [d.batchCoord_eq_zero _ _ hb', d.offCoord_eq_zero _ _ hk, Nat.add_zero]
    unfold GatherDims.start
    rw [dif_pos hm]
    have hsi : d.siIdx (ix3 n f (0 : Fin 1)) ⟨d.startIndexMap.idxOf 2, List.idxOf_lt_length_iff.2 hm⟩ = ix4 n f (0 : Fin 1) (0 : Fin 1) := by
      funext b'
      match b' with
      | ⟨0, _⟩ => rfl
      | ⟨1, _⟩ => rfl
      | ⟨2, _⟩ => exact Subsingleton.elim (α := Fin 1) _ _
      | ⟨3, _⟩ => exact Subsingleton.elim (α := Fin 1) _ _
    have hbl := b.isLt
    rw [hsi, hb, d.slice_collapsed 2 hc, StableHlo.Predicate.toInt_ofNat_small _ (by omega)]
    show min ((b.val : Int)).toNat (9 - 1) = b.val
    omega

/-- An entry picked along the last axis of length 8: the entry that the index names. -/
theorem gather_last8 (x : S131072x16x8.Idx → EReal) (idx : IVec S131072x16x1x1 32) (n : Fin 131072) (f : Fin 16) (b : Fin 8)
    (hb : idx (ix4 n f (0 : Fin 1) (0 : Fin 1)) = BitVec.ofNat 32 b.val) :
    Host.gather gather_S131072x16x8_S131072x16x1x1_S131072x16x1_n_2_01_01_2_3_111 x idx (ix3 n f (0 : Fin 1)) = x (ix3 n f b) := by
  unfold Host.gather
  refine congrArg x (funext fun a => Fin.ext ?_)
  set d := gather_S131072x16x8_S131072x16x1x1_S131072x16x1_n_2_01_01_2_3_111 with hd
  match a with
  | ⟨0, _⟩ =>
    have hm : (0 : Fin 3) ∈ d.operandBatchingDims := by rw [hd]; decide
    have hk : (0 : Fin 3) ∉ d.sKept := fun h => ((d.mem_sKept 0).1 h).2 hm
    show d.start (ix3 n f (0 : Fin 1)) idx 0 + d.batchCoord (ix3 n f (0 : Fin 1)) 0 + d.offCoord (ix3 n f (0 : Fin 1)) 0 = n.val
    rw [d.start_batching _ _ _ hm, d.offCoord_eq_zero _ _ hk, Nat.zero_add, Nat.add_zero]
    rfl
  | ⟨1, _⟩ =>
    have hm : (1 : Fin 3) ∈ d.operandBatchingDims := by rw [hd]; decide
    have hk : (1 : Fin 3) ∉ d.sKept := fun h => ((d.mem_sKept 1).1 h).2 hm
    show d.start (ix3 n f (0 : Fin 1)) idx 1 + d.batchCoord (ix3 n f (0 : Fin 1)) 1 + d.offCoord (ix3 n f (0 : Fin 1)) 1 = f.val
    rw [d.start_batching _ _ _ hm, d.offCoord_eq_zero _ _ hk, Nat.zero_add, Nat.add_zero]
    rfl
  | ⟨2, _⟩ =>
    have hm : (2 : Fin 3) ∈ d.startIndexMap := by rw [hd]; decide
    have hc : (2 : Fin 3) ∈ d.collapsedSliceDims := by rw [hd]; decide
    have hk : (2 : Fin 3) ∉ d.sKept := fun h => ((d.mem_sKept 2).1 h).1 hc
    have hb' : (2 : Fin 3) ∉ d.operandBatchingDims := by rw [hd]; decide
    show d.start (ix3 n f (0 : Fin 1)) idx 2 + d.batchCoord (ix3 n f (0 : Fin 1)) 2 + d.offCoord (ix3 n f (0 : Fin 1)) 2 = b.val
    rw [d.batchCoord_eq_zero _ _ hb', d.offCoord_eq_zero _ _ hk, Nat.add_zero]
    unfold GatherDims.start
    rw [dif_pos hm]
    have hsi : d.siIdx (ix3 n f (0 : Fin 1)) ⟨d.startIndexMap.idxOf 2, List.idxOf_lt_length_iff.2 hm⟩ = ix4 n f (0 : Fin 1) (0 : Fin 1) := by
      funext b'
      match b' with
      | ⟨0, _⟩ => rfl
      | ⟨1, _⟩ => rfl
      | ⟨2, _⟩ => exact Subsingleton.elim (α := Fin 1) _ _
      | ⟨3, _⟩ => exact Subsingleton.elim (α := Fin 1) _ _
    have hbl := b.isLt
    rw [hsi, hb, d.slice_collapsed 2 hc, StableHlo.Predicate.toInt_ofNat_small _ (by omega)]
    show min ((b.val : Int)).toNat (8 - 1) = b.val
    omega

/-- A left fold that adds a term per element is the start plus the sum of the terms. -/
theorem foldl_add_sum {M : Type} [AddCommMonoid M] {N : ℕ} (g : Fin N → M) (v : M) :
    (List.finRange N).foldl (fun r n => r + g n) v = v + ∑ n, g n := by
  have h : ∀ (l : List (Fin N)) (v : M), l.foldl (fun r n => r + g n) v = v + (l.map g).sum := by
    intro l
    induction l with
    | nil => intro v; simp
    | cons a l ih => intro v; rw [List.foldl_cons, ih, List.map_cons, List.sum_cons, add_assoc]
  rw [h, ← List.ofFn_eq_map, List.sum_ofFn]

/-- The running sum along the last axis. -/
theorem running_sum (x : S131072x16x8.Idx → EReal) (init : S_.Idx → EReal) (hi : ∀ i, init i = 0) (n : Fin 131072) (f : Fin 16)
    (k : Fin 8) :
    Host.reduceWindowAdd (F := Ideal) (φ := .f32) ![1, 1, 8] ![1, 1, 1] ![0, 0, 7] ![0, 0, 0] x init
        reduceWindows_S131072x16x8_S131072x16x8_w1s1p0_0_w1s1p0_0_w8s1p7_0 h_S_ (ix3 n f k)
      = ∑ c : Fin 8, if h : 7 ≤ k.val + c.val then x (ix3 n f ⟨k.val + c.val - 7, by omega⟩) else 0 := by
  show Host.reduceWindow (α := EReal) (· + ·) ![1, 1, 8] ![1, 1, 1] ![0, 0, 7] ![0, 0, 0] x
    (fun _ : (⟨0, ![]⟩ : Shape).Idx => init (Shape.Idx.first h_S_)) reduceWindows_S131072x16x8_S131072x16x8_w1s1p0_0_w1s1p0_0_w8s1p7_0 (by decide) (ix3 n f k) = _
  unfold Host.reduceWindow
  dsimp only
  rw [hi, foldl_add_sum, zero_add]
  refine (Equiv.sum_comp (Shape.rowMajor (⟨3, ![1, 1, 8]⟩ : Shape)).symm (fun q : (⟨3, ![1, 1, 8]⟩ : Shape).Idx =>
    @dite EReal (∀ a : Fin 3, (![0, 0, 7] : Fin 3 → ℕ) a ≤ (ix3 n f k a).val * (![1, 1, 1] : Fin 3 → ℕ) a + (q a).val
        ∧ (ix3 n f k a).val * (![1, 1, 1] : Fin 3 → ℕ) a + (q a).val - (![0, 0, 7] : Fin 3 → ℕ) a < S131072x16x8.size a)
      (Nat.decidableForallFin _) (fun hin => x (fun a => ⟨(ix3 n f k a).val * (![1, 1, 1] : Fin 3 → ℕ) a + (q a).val - (![0, 0, 7] : Fin 3 → ℕ) a, (hin a).2⟩)) (fun _ => 0))).trans ?_
  rw [sum_idx3]
  simp only [Fin.sum_univ_one]
  refine Finset.sum_congr rfl fun c _ => ?_
  by_cases h : 7 ≤ k.val + c.val
  · have hk := k.isLt
    have hc := c.isLt
    have hn := n.isLt
    have hf := f.isLt
    rw [dif_pos h, dif_pos fun a => by
      match a with
      | ⟨0, _⟩ => exact ⟨Nat.zero_le _, by show n.val * 1 + 0 - 0 < 131072; omega⟩
      | ⟨1, _⟩ => exact ⟨Nat.zero_le _, by show f.val * 1 + 0 - 0 < 16; omega⟩
      | ⟨2, _⟩ => exact ⟨by show 7 ≤ k.val * 1 + c.val; omega, by show k.val * 1 + c.val - 7 < 8; omega⟩]
    refine congrArg x (funext fun a => Fin.ext ?_)
    match a with
    | ⟨0, _⟩ => show n.val * 1 + 0 - 0 = n.val; omega
    | ⟨1, _⟩ => show f.val * 1 + 0 - 0 = f.val; omega
    | ⟨2, _⟩ => show k.val * 1 + c.val - 7 = k.val + c.val - 7; omega
  · rw [dif_neg h, dif_neg fun hin => h (by
      have := (hin 2).1
      change 7 ≤ k.val * 1 + c.val at this
      omega)]

/-- The running sum of real numbers, minus three, is the knot after the last bin added. -/
theorem running_knot (x : S131072x16x8.Idx → EReal) (init : S_.Idx → EReal) (hi : ∀ i, init i = 0) (n : Fin 131072) (f : Fin 16)
    (k : Fin 8) (w : Fin 8 → ℝ) (hx : ∀ k, x (ix3 n f k) = (w k : EReal)) :
    Host.reduceWindowAdd (F := Ideal) (φ := .f32) ![1, 1, 8] ![1, 1, 1] ![0, 0, 7] ![0, 0, 0] x init
        reduceWindows_S131072x16x8_S131072x16x8_w1s1p0_0_w1s1p0_0_w8s1p7_0 h_S_ (ix3 n f k) - ((3 : ℝ) : EReal)
      = (knot w (k.val + 1) : EReal) := by
  rw [running_sum x init hi]
  simp only [hx]
  have h : ∀ c : Fin 8, (if h : 7 ≤ k.val + c.val then (w ⟨k.val + c.val - 7, by omega⟩ : EReal) else 0)
      = ((if h : 7 ≤ k.val + c.val then w ⟨k.val + c.val - 7, by omega⟩ else 0 : ℝ) : EReal) := fun c => by split <;> rfl
  simp only [h]
  rw [coe_sum, ← EReal.coe_sub]
  refine congrArg _ ?_
  unfold knot
  refine congrArg (· - (3 : ℝ)) ?_
  fin_cases k <;> simp [Fin.sum_univ_eight]

end Cert.Spline

end
-- ==== Proof.RefBin.lean ====
/- The reference's knots, its bin and the entries it picks with it. -/
module

public import proofs.«01_k».proof.Proof.RefNet
public import proofs.«01_k».proof.Proof.RefOps
public import proofs.«01_k».proof.Proof.Block

@[expose] public section

set_option maxRecDepth 16384

noncomputable section

open Classical

namespace Cert.Spline

open Cert.ReferenceIdeal Cert.ReferenceIdeal.Gen Cert.ReferenceIdeal.Read Idealize.ShloMosaic

/-- The count of the marked knots less one, held between zero and seven, is the bin. -/
theorem bin_word : ∀ (b : Fin 8) (c : Bool), (c = true → b = 7) →
    IntOp.minsi 7#32 (IntOp.maxsi 0#32 (IntOp.subi (Finset.fold IntOp.addi 0#32
      (fun j : Fin 9 => if j.val ≤ b.val ∨ (j.val = 8 ∧ c = true) then 1#32 else 0#32) Finset.univ) 1#32)) = BitVec.ofNat 32 b.val := by
  decide +kernel

/-- An index that is not negative is kept (nine entries). -/
theorem slot_word9 : ∀ b : Fin 9, Scalar.select (IntOp.cmpi .slt (BitVec.ofNat 32 b.val) 0#32)
    (IntOp.addi (BitVec.ofNat 32 b.val) 9#32) (BitVec.ofNat 32 b.val) = BitVec.ofNat 32 b.val := by
  decide +kernel

/-- An index that is not negative is kept (eight entries). -/
theorem slot_word8 : ∀ b : Fin 8, Scalar.select (IntOp.cmpi .slt (BitVec.ofNat 32 b.val) 0#32)
    (IntOp.addi (BitVec.ofNat 32 b.val) 8#32) (BitVec.ofNat 32 b.val) = BitVec.ofNat 32 b.val := by
  decide +kernel

/-- The index after a bin. -/
theorem next_word : ∀ b : Fin 8, IntOp.addi (BitVec.ofNat 32 b.val) 1#32 = BitVec.ofNat 32 b.succ.val := by
  decide +kernel

/-- The host's integer sum over the last axis is the running sum over its nine entries. -/
theorem host_count (x : S131072x16x9.Idx → BitVec 32) (init : S_.Idx → BitVec 32) (n : Fin 131072) (f : Fin 16) :
    Host.reduce IntOp.addi x init reducesTo_S131072x16x9_S131072x16_d2 h_S_ (ix2 n f)
      = Finset.fold IntOp.addi (init ix0) (fun k => x (ix3 n f k)) Finset.univ := by
  pointwise []
  rw [show Shape.Idx.first h_S_ = ix0 from funext fun a => a.elim0]

variable {a0 : (⟨2, ![131072, 16]⟩ : Shape).Idx → EReal} {a1 : (⟨2, ![16, 64]⟩ : Shape).Idx → EReal}
  {a2 : (⟨1, ![64]⟩ : Shape).Idx → EReal} {a3 : (⟨2, ![64, 128]⟩ : Shape).Idx → EReal} {a4 : (⟨1, ![128]⟩ : Shape).Idx → EReal}
  {a5 : (⟨2, ![128, 400]⟩ : Shape).Idx → EReal} {a6 : (⟨1, ![400]⟩ : Shape).Idx → EReal} {p : Params}
  {X : Fin 131072 → Fin 16 → ℝ} (H : ArgsAre a0 a1 a2 a3 a4 a5 a6 p X)

include H

/-- The reference's knots. -/
theorem ref_knot (n : Fin 131072) (f : Fin 16) (j : Fin 9) :
    val_main_v63 (F := Ideal) a0 a1 a2 a3 a4 a5 a6 (ix3 n f j) = (knot (width (lw (logit p (X n)) f)) j.val : EReal) := by
  pointwise [val_main_v63, val_main_v62, val_main_cst_17, val_main_v61, val_main_v59, val_main_cst_16]
  rw [three_word]
  split
  · next h =>
    have hj : j.val = 0 := by omega
    rw [hj, knot_zero, ← EReal.coe_zero, ← EReal.coe_sub, zero_sub]
  · next h =>
    have hk := running_knot (val_main_v52 (F := Ideal) a0 a1 a2 a3 a4 a5 a6) (val_main_call3_call0_v0 (F := Ideal)) (fun _ => zero_word) n f
      ⟨j.val - 1, by omega⟩ (width (lw (logit p (X n)) f)) (fun k => ref_width H n f k)
    have hj : j.val - 1 + 1 = j.val := by omega
    exact hk.trans (by rw [hj])

/-- The images of the reference's knots. -/
theorem ref_image (n : Fin 131072) (f : Fin 16) (j : Fin 9) :
    val_main_v67 (F := Ideal) a0 a1 a2 a3 a4 a5 a6 (ix3 n f j) = (knot (width (lh (logit p (X n)) f)) j.val : EReal) := by
  pointwise [val_main_v67, val_main_v66, val_main_cst_18, val_main_v65, val_main_v59, val_main_cst_16]
  rw [three_word]
  split
  · next h =>
    have hj : j.val = 0 := by omega
    rw [hj, knot_zero, ← EReal.coe_zero, ← EReal.coe_sub, zero_sub]
  · next h =>
    have hk := running_knot (val_main_v58 (F := Ideal) a0 a1 a2 a3 a4 a5 a6) (val_main_call4_call0_v0 (F := Ideal)) (fun _ => zero_word) n f
      ⟨j.val - 1, by omega⟩ (width (lh (logit p (X n)) f)) (fun k => ref_height H n f k)
    have hj : j.val - 1 + 1 = j.val := by omega
    exact hk.trans (by rw [hj])

/-- The reference's test of the interval. -/
theorem ref_inside (n : Fin 131072) (f : Fin 16) :
    val_main_v72 (F := Ideal) a0 (ix2 n f) = BitVec.ofBool (decide (Inside (X n f))) := by
  pointwise [val_main_v72, val_main_v69, val_main_v71, val_main_v68, val_main_v70, val_main_cst_19, val_main_cst_20]
  rw [H.h0, three_word, neg_three_word]
  simp only [EReal.coe_le_coe_iff, Inside]
  by_cases h1 : -3 ≤ X n f <;> by_cases h2 : X n f ≤ 3 <;> simp [h1, h2, IntOp.andi]

/-- The point the reference places. -/
theorem ref_inner (n : Fin 131072) (f : Fin 16) :
    val_main_v73 (F := Ideal) a0 (ix2 n f) = (inner (X n f) : EReal) := by
  pointwise [val_main_v73, val_main_call5_v1, val_main_call5_v0, val_main_cst_21]
  rw [ref_inside H, H.h0, select_ofBool]
  unfold inner
  split
  · rfl
  · exact zero_word

/-- The reference's marks. -/
theorem ref_mark (n : Fin 131072) (f : Fin 16) (j : Fin 9) :
    val_main_v77 (F := Ideal) a0 a1 a2 a3 a4 a5 a6 (ix3 n f j)
      = if knot (width (lw (logit p (X n)) f)) j.val ≤ inner (X n f) then 1#32 else 0#32 := by
  pointwise [val_main_v77, val_main_v76, val_main_v75, val_main_v74]
  rw [ref_inner H, ref_knot H]
  simp only [EReal.coe_le_coe_iff]
  by_cases h : knot (width (lw (logit p (X n)) f)) j.val ≤ inner (X n f) <;> simp [h]

/-- The bin the reference finds. -/
theorem ref_bin (n : Fin 131072) (f : Fin 16) :
    val_main_v81 (F := Ideal) a0 a1 a2 a3 a4 a5 a6 (ix2 n f)
      = BitVec.ofNat 32 (bin (X n f) (lw (logit p (X n)) f)).val := by
  have h78 : val_main_v78 (F := Ideal) a0 a1 a2 a3 a4 a5 a6 (ix2 n f) = Finset.fold IntOp.addi 0#32
      (fun j : Fin 9 => if j.val ≤ (bin (X n f) (lw (logit p (X n)) f)).val
        ∨ (j.val = 8 ∧ decide (knot (width (lw (logit p (X n)) f)) 8 ≤ inner (X n f)) = true) then 1#32 else 0#32) Finset.univ := by
    refine (host_count (val_main_v77 (F := Ideal) a0 a1 a2 a3 a4 a5 a6) (val_main_c (F := Ideal)) n f).trans ?_
    refine Finset.fold_congr fun j _ => (ref_mark H n f j).trans (if_congr ?_ rfl rfl)
    have hb := (bin (X n f) (lw (logit p (X n)) f)).isLt
    by_cases hj : j.val < 8
    · rw [knot_le_iff _ (width_pos _) _ _ (bin_spec _ _) _ hj]
      constructor
      · exact Or.inl
      · rintro (h | h)
        · exact h
        · omega
    · have h8 : j.val = 8 := by have := j.isLt; omega
      rw [h8, decide_eq_true_iff]
      constructor
      · exact fun h => Or.inr ⟨rfl, h⟩
      · rintro (h | h)
        · omega
        · exact h.2
  pointwise [val_main_v81, val_main_call6_v4, val_main_call6_v3, val_main_c_24, val_main_call6_v2, val_main_call6_v1, val_main_call6_v0,
    val_main_c_23, val_main_v80, val_main_v79, val_main_c_22]
  rw [h78]
  exact bin_word _ _ fun h => last_knot _ (width_pos _) _ _ (bin_spec _ _) (of_decide_eq_true h)

/-- The index at which the left end is picked. -/
theorem ref_idx7 (n : Fin 131072) (f : Fin 16) :
    val_main_call7_v5 (F := Ideal) a0 a1 a2 a3 a4 a5 a6 (ix4 n f (0 : Fin 1) (0 : Fin 1)) = BitVec.ofNat 32 (bin (X n f) (lw (logit p (X n)) f)).val := by
  pointwise [val_main_call7_v5, val_main_call7_v4, val_main_call7_v3, val_main_call7_v2, val_main_call7_c_0, val_main_call7_v1,
    val_main_call7_v0, val_main_call7_c, val_main_v82]
  rw [ref_bin H]
  exact slot_word9 (bin (X n f) (lw (logit p (X n)) f)).castSucc

/-- The index at which the width is picked. -/
theorem ref_idx8 (n : Fin 131072) (f : Fin 16) :
    val_main_call8_v5 (F := Ideal) a0 a1 a2 a3 a4 a5 a6 (ix4 n f (0 : Fin 1) (0 : Fin 1)) = BitVec.ofNat 32 (bin (X n f) (lw (logit p (X n)) f)).val := by
  pointwise [val_main_call8_v5, val_main_call8_v4, val_main_call8_v3, val_main_call8_v2, val_main_call8_c_0, val_main_call8_v1,
    val_main_call8_v0, val_main_call8_c, val_main_v85]
  rw [ref_bin H]
  exact slot_word8 _

/-- The index at which the lower end of the image is picked. -/
theorem ref_idx9 (n : Fin 131072) (f : Fin 16) :
    val_main_call9_v5 (F := Ideal) a0 a1 a2 a3 a4 a5 a6 (ix4 n f (0 : Fin 1) (0 : Fin 1)) = BitVec.ofNat 32 (bin (X n f) (lw (logit p (X n)) f)).val := by
  pointwise [val_main_call9_v5, val_main_call9_v4, val_main_call9_v3, val_main_call9_v2, val_main_call9_c_0, val_main_call9_v1,
    val_main_call9_v0, val_main_call9_c, val_main_v88]
  rw [ref_bin H]
  exact slot_word9 (bin (X n f) (lw (logit p (X n)) f)).castSucc

/-- The index at which the height is picked. -/
theorem ref_idx10 (n : Fin 131072) (f : Fin 16) :
    val_main_call10_v5 (F := Ideal) a0 a1 a2 a3 a4 a5 a6 (ix4 n f (0 : Fin 1) (0 : Fin 1)) = BitVec.ofNat 32 (bin (X n f) (lw (logit p (X n)) f)).val := by
  pointwise [val_main_call10_v5, val_main_call10_v4, val_main_call10_v3, val_main_call10_v2, val_main_call10_c_0, val_main_call10_v1,
    val_main_call10_v0, val_main_call10_c, val_main_v91]
  rw [ref_bin H]
  exact slot_word8 _

/-- The index at which the left slope is picked. -/
theorem ref_idx11 (n : Fin 131072) (f : Fin 16) :
    val_main_call11_v5 (F := Ideal) a0 a1 a2 a3 a4 a5 a6 (ix4 n f (0 : Fin 1) (0 : Fin 1)) = BitVec.ofNat 32 (bin (X n f) (lw (logit p (X n)) f)).val := by
  pointwise [val_main_call11_v5, val_main_call11_v4, val_main_call11_v3, val_main_call11_v2, val_main_call11_c_0, val_main_call11_v1,
    val_main_call11_v0, val_main_call11_c, val_main_v94]
  rw [ref_bin H]
  exact slot_word9 (bin (X n f) (lw (logit p (X n)) f)).castSucc

/-- The index at which the right slope is picked. -/
theorem ref_idx12 (n : Fin 131072) (f : Fin 16) :
    val_main_call12_v5 (F := Ideal) a0 a1 a2 a3 a4 a5 a6 (ix4 n f (0 : Fin 1) (0 : Fin 1)) = BitVec.ofNat 32 (bin (X n f) (lw (logit p (X n)) f)).succ.val := by
  pointwise [val_main_call12_v5, val_main_call12_v4, val_main_call12_v3, val_main_call12_v2, val_main_call12_c_0, val_main_call12_v1,
    val_main_call12_v0, val_main_call12_c, val_main_v99, val_main_v98, val_main_v97, val_main_c_25]
  rw [ref_bin H, next_word]
  exact slot_word9 _

/-- The left end of the point's bin. -/
theorem ref_left (n : Fin 131072) (f : Fin 16) :
    val_main_v84 (F := Ideal) a0 a1 a2 a3 a4 a5 a6 (ix2 n f) = (knot (width (lw (logit p (X n)) f)) (bin (X n f) (lw (logit p (X n)) f)).val : EReal) := by
  pointwise [val_main_v84]
  exact (gather_last9 (val_main_v63 (F := Ideal) a0 a1 a2 a3 a4 a5 a6) (val_main_call7_v5 (F := Ideal) a0 a1 a2 a3 a4 a5 a6) n f
    (bin (X n f) (lw (logit p (X n)) f)).castSucc (ref_idx7 H n f)).trans (ref_knot H n f _)

/-- The width of the point's bin. -/
theorem ref_bin_width (n : Fin 131072) (f : Fin 16) :
    val_main_v87 (F := Ideal) a0 a1 a2 a3 a4 a5 a6 (ix2 n f) = (width (lw (logit p (X n)) f) (bin (X n f) (lw (logit p (X n)) f)) : EReal) := by
  pointwise [val_main_v87]
  exact (gather_last8 (val_main_v52 (F := Ideal) a0 a1 a2 a3 a4 a5 a6) (val_main_call8_v5 (F := Ideal) a0 a1 a2 a3 a4 a5 a6) n f
    (bin (X n f) (lw (logit p (X n)) f)) (ref_idx8 H n f)).trans (ref_width H n f _)

/-- The lower end of the bin's image. -/
theorem ref_low (n : Fin 131072) (f : Fin 16) :
    val_main_v90 (F := Ideal) a0 a1 a2 a3 a4 a5 a6 (ix2 n f) = (knot (width (lh (logit p (X n)) f)) (bin (X n f) (lw (logit p (X n)) f)).val : EReal) := by
  pointwise [val_main_v90]
  exact (gather_last9 (val_main_v67 (F := Ideal) a0 a1 a2 a3 a4 a5 a6) (val_main_call9_v5 (F := Ideal) a0 a1 a2 a3 a4 a5 a6) n f
    (bin (X n f) (lw (logit p (X n)) f)).castSucc (ref_idx9 H n f)).trans (ref_image H n f _)

/-- The height of the point's bin. -/
theorem ref_bin_height (n : Fin 131072) (f : Fin 16) :
    val_main_v93 (F := Ideal) a0 a1 a2 a3 a4 a5 a6 (ix2 n f) = (width (lh (logit p (X n)) f) (bin (X n f) (lw (logit p (X n)) f)) : EReal) := by
  pointwise [val_main_v93]
  exact (gather_last8 (val_main_v58 (F := Ideal) a0 a1 a2 a3 a4 a5 a6) (val_main_call10_v5 (F := Ideal) a0 a1 a2 a3 a4 a5 a6) n f
    (bin (X n f) (lw (logit p (X n)) f)) (ref_idx10 H n f)).trans (ref_height H n f _)

/-- The slope at the bin's left end. -/
theorem ref_slope_left (n : Fin 131072) (f : Fin 16) :
    val_main_v96 (F := Ideal) a0 a1 a2 a3 a4 a5 a6 (ix2 n f) = (slope (ls (logit p (X n)) f (bin (X n f) (lw (logit p (X n)) f)).castSucc) : EReal) := by
  pointwise [val_main_v96]
  exact (gather_last9 (val_main_v42 (F := Ideal) a0 a1 a2 a3 a4 a5 a6) (val_main_call11_v5 (F := Ideal) a0 a1 a2 a3 a4 a5 a6) n f
    (bin (X n f) (lw (logit p (X n)) f)).castSucc (ref_idx11 H n f)).trans (ref_slope H n f _)

/-- The slope at the bin's right end. -/
theorem ref_slope_right (n : Fin 131072) (f : Fin 16) :
    val_main_v101 (F := Ideal) a0 a1 a2 a3 a4 a5 a6 (ix2 n f) = (slope (ls (logit p (X n)) f (bin (X n f) (lw (logit p (X n)) f)).succ) : EReal) := by
  pointwise [val_main_v101]
  exact (gather_last9 (val_main_v42 (F := Ideal) a0 a1 a2 a3 a4 a5 a6) (val_main_call12_v5 (F := Ideal) a0 a1 a2 a3 a4 a5 a6) n f
    (bin (X n f) (lw (logit p (X n)) f)).succ (ref_idx12 H n f)).trans (ref_slope H n f _)

end Cert.Spline

end
-- ==== Proof.RefOut.lean ====
/- The reference's two results, read at an index. -/
module

public import proofs.«01_k».proof.Proof.RefBin

@[expose] public section

set_option maxRecDepth 16384

noncomputable section

open Classical

namespace Cert.Spline

open Cert.ReferenceIdeal Cert.ReferenceIdeal.Gen Cert.ReferenceIdeal.Read Idealize.ShloMosaic

variable {a0 : (⟨2, ![131072, 16]⟩ : Shape).Idx → EReal} {a1 : (⟨2, ![16, 64]⟩ : Shape).Idx → EReal}
  {a2 : (⟨1, ![64]⟩ : Shape).Idx → EReal} {a3 : (⟨2, ![64, 128]⟩ : Shape).Idx → EReal} {a4 : (⟨1, ![128]⟩ : Shape).Idx → EReal}
  {a5 : (⟨2, ![128, 400]⟩ : Shape).Idx → EReal} {a6 : (⟨1, ![400]⟩ : Shape).Idx → EReal} {p : Params}
  {X : Fin 131072 → Fin 16 → ℝ} (H : ArgsAre a0 a1 a2 a3 a4 a5 a6 p X)

include H

/-- The place of the point in its bin. -/
theorem ref_place (n : Fin 131072) (f : Fin 16) :
    val_main_v103 (F := Ideal) a0 a1 a2 a3 a4 a5 a6 (ix2 n f) = (place (X n f) (lw (logit p (X n)) f) : EReal) := by
  pointwise [val_main_v103, val_main_v102]
  rw [ref_inner H, ref_left H, ref_bin_width H, ← EReal.coe_sub]
  exact div_coe_coe _ _ (width_pos _ _).ne'

/-- One minus the place. -/
theorem ref_rest (n : Fin 131072) (f : Fin 16) :
    val_main_v105 (F := Ideal) a0 a1 a2 a3 a4 a5 a6 (ix2 n f) = ((1 - place (X n f) (lw (logit p (X n)) f) : ℝ) : EReal) := by
  pointwise [val_main_v105, val_main_v104, val_main_cst_26]
  rw [ref_place H]
  rfl

/-- The reference's denominator. -/
theorem ref_den (n : Fin 131072) (f : Fin 16) :
    val_main_v115 (F := Ideal) a0 a1 a2 a3 a4 a5 a6 (ix2 n f) = (rowDen p (X n) f : EReal) := by
  pointwise [val_main_v115, val_main_v114, val_main_v113, val_main_v112, val_main_v111, val_main_v110, val_main_v109, val_main_v108,
    val_main_cst_27, val_main_v107, val_main_v106]
  rw [ref_rest H, ref_place H, ref_slope_left H, ref_slope_right H, two_word]
  simp only [← EReal.coe_mul, ← EReal.coe_add]
  refine congrArg _ ?_
  unfold rowDen denAt den
  ring

/-- The reference's value numerator. -/
theorem ref_num (n : Fin 131072) (f : Fin 16) :
    val_main_v121 (F := Ideal) a0 a1 a2 a3 a4 a5 a6 (ix2 n f)
      = (numAt (X n f) (lw (logit p (X n)) f) (lh (logit p (X n)) f) (fun k => ls (logit p (X n)) f k.castSucc)
        (fun k => ls (logit p (X n)) f k.succ) : EReal) := by
  pointwise [val_main_v121, val_main_v120, val_main_v119, val_main_v118, val_main_v117, val_main_v116]
  rw [ref_rest H, ref_place H, ref_slope_left H, ref_slope_right H, ref_bin_height H]
  simp only [← EReal.coe_mul, ← EReal.coe_add]
  refine congrArg _ ?_
  unfold numAt num
  ring

/-- The reference's derivative numerator. -/
theorem ref_dnum (n : Fin 131072) (f : Fin 16) :
    val_main_v135 (F := Ideal) a0 a1 a2 a3 a4 a5 a6 (ix2 n f)
      = (dnumAt (X n f) (lw (logit p (X n)) f) (lh (logit p (X n)) f) (fun k => ls (logit p (X n)) f k.castSucc)
        (fun k => ls (logit p (X n)) f k.succ) : EReal) := by
  pointwise [val_main_v135, val_main_v134, val_main_v133, val_main_v132, val_main_v131, val_main_v130, val_main_v129, val_main_v128,
    val_main_v127, val_main_cst_28, val_main_v126, val_main_v125, val_main_v124]
  rw [ref_rest H, ref_place H, ref_slope_left H, ref_slope_right H, ref_bin_height H, ref_bin_width H, two_word,
    div_coe_coe _ _ (width_pos _ _).ne']
  simp only [← EReal.coe_mul, ← EReal.coe_add]
  refine congrArg _ ?_
  unfold dnumAt dnum
  ring

/-- The reference's first result. -/
theorem ref_value (n : Fin 131072) (f : Fin 16) :
    val_main_v141 (F := Ideal) a0 a1 a2 a3 a4 a5 a6 (ix2 n f) = rowValue p (X n) f := by
  rw [val_main_v141_apply, val_main_v123_apply, val_main_v122_apply, ref_inside H, select_ofBool, ref_low H, ref_num H, ref_den H, H.h0]
  unfold rowValue value rowDen
  exact if_congr Iff.rfl rfl rfl

/-- The reference's logarithm of one derivative. -/
theorem ref_logderiv (n : Fin 131072) (f : Fin 16) :
    val_main_v142 (F := Ideal) a0 a1 a2 a3 a4 a5 a6 (ix2 n f)
      = logDeriv (X n f) (lw (logit p (X n)) f) (lh (logit p (X n)) f) (fun k => ls (logit p (X n)) f k.castSucc)
        (fun k => ls (logit p (X n)) f k.succ) := by
  pointwise [val_main_v142, val_main_v140, val_main_v139, val_main_v138, val_main_cst_29, val_main_v137, val_main_v136,
    val_main_call14_v1, val_main_call14_v0, val_main_cst_30]
  rw [ref_inside H, select_ofBool, ref_dnum H, ref_den H, two_word]
  unfold logDeriv
  split
  · rfl
  · exact zero_word

/-- The reference's second result. -/
theorem ref_log (n : Fin 131072) :
    val_main_v143 (F := Ideal) a0 a1 a2 a3 a4 a5 a6 (ix1 n) = rowLog p (X n) := by
  pointwise [val_main_v143, val_main_cst_31]
  simp only [ref_logderiv H]
  rfl

end Cert.Spline

end
-- ==== Proof.Mask.lean ====
/- The mask of the second result: where it holds, no denominator of the row inside the interval is negative. -/
module

public import proofs.«01_k».proof.Proof.RefOut
public import proofs.«01_k».proof.Proof.Gen.On_denominators_not_negative
public import Idealize.ShloMosaic.Lib.ReduceAll

@[expose] public section

set_option maxRecDepth 16384

noncomputable section

open Classical

namespace Cert.Spline

open Cert.ReferenceIdeal Cert.ReferenceIdeal.Gen Cert.ReferenceIdeal.Read Idealize.ShloMosaic

variable (a0 : FVec Ideal S131072x16 .f32) (a1 : FVec Ideal S16x64 .f32) (a2 : FVec Ideal S64 .f32) (a3 : FVec Ideal S64x128 .f32)
  (a4 : FVec Ideal S128 .f32) (a5 : FVec Ideal S128x400 .f32) (a6 : FVec Ideal S400 .f32)

/-- The mask's operations up to the shifted logits of the widths are the reference's. -/
theorem mask_start : Cert.On_denominators_not_negative.fn (F := Ideal) a0 a1 a2 a3 a4 a5 a6
    = Cert.On_denominators_not_negative.fn_part1 (F := Ideal) a0 (val_main_v14 (F := Ideal) a0 a1 a2 a3 a4 a5 a6)
      (val_main_v21 (F := Ideal) a0 a1 a2 a3 a4 a5 a6) := rfl

/-- On to the softmaxes and softplus. -/
theorem mask_part1 : Cert.On_denominators_not_negative.fn_part1 (F := Ideal) a0 (val_main_v14 (F := Ideal) a0 a1 a2 a3 a4 a5 a6)
      (val_main_v21 (F := Ideal) a0 a1 a2 a3 a4 a5 a6)
    = Cert.On_denominators_not_negative.fn_part2 (F := Ideal) a0 (val_main_v26 (F := Ideal) a0 a1 a2 a3 a4 a5 a6)
      (val_main_v38 (F := Ideal) a0 a1 a2 a3 a4 a5 a6) (val_main_v40 (F := Ideal) a0 a1 a2 a3 a4 a5 a6) (val_main_cst_5 (F := Ideal)) := rfl

/-- On to the slopes and widths. -/
theorem mask_part2 : Cert.On_denominators_not_negative.fn_part2 (F := Ideal) a0 (val_main_v26 (F := Ideal) a0 a1 a2 a3 a4 a5 a6)
      (val_main_v38 (F := Ideal) a0 a1 a2 a3 a4 a5 a6) (val_main_v40 (F := Ideal) a0 a1 a2 a3 a4 a5 a6) (val_main_cst_5 (F := Ideal))
    = Cert.On_denominators_not_negative.fn_part3 (F := Ideal) a0 (val_main_v42 (F := Ideal) a0 a1 a2 a3 a4 a5 a6)
      (val_main_v46 (F := Ideal) a0 a1 a2 a3 a4 a5 a6) (val_main_v52 (F := Ideal) a0 a1 a2 a3 a4 a5 a6) (val_main_v55 (F := Ideal)) := rfl

/-- On to the knots and the interval test. -/
theorem mask_part3 : Cert.On_denominators_not_negative.fn_part3 (F := Ideal) a0 (val_main_v42 (F := Ideal) a0 a1 a2 a3 a4 a5 a6)
      (val_main_v46 (F := Ideal) a0 a1 a2 a3 a4 a5 a6) (val_main_v52 (F := Ideal) a0 a1 a2 a3 a4 a5 a6) (val_main_v55 (F := Ideal))
    = Cert.On_denominators_not_negative.fn_part4 (F := Ideal) a0 (val_main_v42 (F := Ideal) a0 a1 a2 a3 a4 a5 a6)
      (val_main_v52 (F := Ideal) a0 a1 a2 a3 a4 a5 a6) (val_main_v58 (F := Ideal) a0 a1 a2 a3 a4 a5 a6)
      (val_main_v63 (F := Ideal) a0 a1 a2 a3 a4 a5 a6) (val_main_v67 (F := Ideal) a0 a1 a2 a3 a4 a5 a6) (val_main_v72 (F := Ideal) a0)
      (val_main_cst_21 (F := Ideal)) := rfl

/-- On to the picked entries. -/
theorem mask_part4 : Cert.On_denominators_not_negative.fn_part4 (F := Ideal) a0 (val_main_v42 (F := Ideal) a0 a1 a2 a3 a4 a5 a6)
      (val_main_v52 (F := Ideal) a0 a1 a2 a3 a4 a5 a6) (val_main_v58 (F := Ideal) a0 a1 a2 a3 a4 a5 a6)
      (val_main_v63 (F := Ideal) a0 a1 a2 a3 a4 a5 a6) (val_main_v67 (F := Ideal) a0 a1 a2 a3 a4 a5 a6) (val_main_v72 (F := Ideal) a0)
      (val_main_cst_21 (F := Ideal))
    = Cert.On_denominators_not_negative.fn_part5 (F := Ideal) (val_main_v42 (F := Ideal) a0 a1 a2 a3 a4 a5 a6) (val_main_v72 (F := Ideal) a0)
      (val_main_v73 (F := Ideal) a0) (val_main_v81 (F := Ideal) a0 a1 a2 a3 a4 a5 a6) (val_main_v84 (F := Ideal) a0 a1 a2 a3 a4 a5 a6)
      (val_main_v87 (F := Ideal) a0 a1 a2 a3 a4 a5 a6) (val_main_v92 (F := Ideal) a0 a1 a2 a3 a4 a5 a6) := rfl

/-- On to the terms of the denominator. -/
theorem mask_part5 : Cert.On_denominators_not_negative.fn_part5 (F := Ideal) (val_main_v42 (F := Ideal) a0 a1 a2 a3 a4 a5 a6)
      (val_main_v72 (F := Ideal) a0) (val_main_v73 (F := Ideal) a0) (val_main_v81 (F := Ideal) a0 a1 a2 a3 a4 a5 a6)
      (val_main_v84 (F := Ideal) a0 a1 a2 a3 a4 a5 a6) (val_main_v87 (F := Ideal) a0 a1 a2 a3 a4 a5 a6)
      (val_main_v92 (F := Ideal) a0 a1 a2 a3 a4 a5 a6)
    = Cert.On_denominators_not_negative.fn_part6 (F := Ideal) (val_main_v72 (F := Ideal) a0) (val_main_v101 (F := Ideal) a0 a1 a2 a3 a4 a5 a6)
      (val_main_v112 (F := Ideal) a0 a1 a2 a3 a4 a5 a6) (val_main_v113 (F := Ideal) a0 a1 a2 a3 a4 a5 a6) := rfl

/-- The mask's last operations, over any arrays. -/
theorem mask_part6 (v72 : IVec S131072x16 1) (v101 v112 v113 : FVec Ideal S131072x16 .f32) :
    (Cert.On_denominators_not_negative.fn_part6 (F := Ideal) v72 v101 v112 v113).2
      = Host.reduce IntOp.andi (noti (andi v72 (cmpf .olt (addf v112 (mulf v101 v113))
        (broadcastInDim S131072x16 ![] bcast_S_S131072x16 (constant (F := Ideal) S_ .f32 0x00000000#32)))))
      (constantI S_ 1 1#1) reducesTo_S131072x16_S131072_d1 h_S_ := by
  unfold Cert.On_denominators_not_negative.fn_part6
  dsimp only

/-- The mask of the second result, from the reference's interval test and denominator. -/
theorem mask_eq : (Cert.On_denominators_not_negative.fn (F := Ideal) a0 a1 a2 a3 a4 a5 a6).2
    = Host.reduce IntOp.andi (noti (andi (val_main_v72 (F := Ideal) a0) (cmpf .olt (val_main_v115 (F := Ideal) a0 a1 a2 a3 a4 a5 a6)
        (broadcastInDim S131072x16 ![] bcast_S_S131072x16 (constant (F := Ideal) S_ .f32 0x00000000#32)))))
      (constantI S_ 1 1#1) reducesTo_S131072x16_S131072_d1 h_S_ := by
  rw [mask_start, mask_part1, mask_part2, mask_part3, mask_part4, mask_part5, mask_part6]
  rfl

/-- A row where the mask holds has no negative denominator at a feature inside the interval. -/
theorem mask_holds {a0 : FVec Ideal S131072x16 .f32} {a1 : FVec Ideal S16x64 .f32} {a2 : FVec Ideal S64 .f32}
    {a3 : FVec Ideal S64x128 .f32} {a4 : FVec Ideal S128 .f32} {a5 : FVec Ideal S128x400 .f32} {a6 : FVec Ideal S400 .f32} {p : Params}
    {X : Fin 131072 → Fin 16 → ℝ} (H : ArgsAre a0 a1 a2 a3 a4 a5 a6 p X) (n : Fin 131072)
    (h : (Cert.On_denominators_not_negative.fn (F := Ideal) a0 a1 a2 a3 a4 a5 a6).2 (ix1 n) = 1#1) (f : Fin 16) (hi : Inside (X n f)) :
    0 ≤ rowDen p (X n) f := by
  rw [mask_eq] at h
  have h1 := Host.reduce_andi_eq_one _ _ _ _ _ h (ix2 n f) (funext fun a => by
    match a with
    | ⟨0, _⟩ => rfl)
  by_contra hlt
  have hneg : (rowDen p (X n) f : EReal) < 0 := by
    rw [← EReal.coe_zero]
    exact EReal.coe_lt_coe_iff.2 (not_le.1 hlt)
  have h2 : noti (andi (val_main_v72 (F := Ideal) a0) (cmpf .olt (val_main_v115 (F := Ideal) a0 a1 a2 a3 a4 a5 a6)
        (broadcastInDim S131072x16 ![] bcast_S_S131072x16 (constant (F := Ideal) S_ .f32 0x00000000#32)))) (ix2 n f)
      = ~~~(IntOp.andi (val_main_v72 (F := Ideal) a0 (ix2 n f))
        (BitVec.ofBool (decide ((val_main_v115 (F := Ideal) a0 a1 a2 a3 a4 a5 a6 (ix2 n f) : EReal) < 0)))) := by
    pointwise []
  rw [h2, ref_inside H, ref_den H, decide_eq_true hi, decide_eq_true hneg] at h1
  exact absurd h1 (by decide)

end Cert.Spline

end
-- ==== Proof.Agree.lean ====
/- The kernel and the reference return the same two arrays. -/
module

public import proofs.«01_k».proof.Defs
public import proofs.«01_k».proof.Proof.Finite
public import proofs.«01_k».proof.Proof.RefOut
public import proofs.«01_k».proof.Proof.Mask
public import proofs.«01_k».proof.Proof.Gen.ReferenceIdeal.Run

@[expose] public section

noncomputable section

namespace Cert.Spline

open Idealize.ShloMosaic Idealize.SL.Sem

/-- The first result, of all the rows that a launch is given. -/
def values (m : (ℓ : Loc Cert.KernelIdeal.nD Cert.KernelIdeal.τ Cert.KernelIdeal.sig) → Buf (Elt Ideal) ℓ) (c : Dev Cert.KernelIdeal.nD) :
    (⟨2, ![131072, 16]⟩ : Shape).Idx → EReal :=
  fun i => rowValue (launchParams m c) (launchRows m c (i 0)) (i 1)

/-- The second result, of all the rows that a launch is given. -/
def logs (m : (ℓ : Loc Cert.KernelIdeal.nD Cert.KernelIdeal.τ Cert.KernelIdeal.sig) → Buf (Elt Ideal) ℓ) (c : Dev Cert.KernelIdeal.nD) :
    (⟨1, ![131072]⟩ : Shape).Idx → EReal :=
  fun i => rowLog (launchParams m c) (launchRows m c (i 0))

section Reference

open Cert.ReferenceIdeal

/-- The reference's run from real arguments: the two results of every row, the arguments unchanged. -/
theorem reference_run (m : (ℓ : Loc nD τ sig) → Buf (Elt Ideal) ℓ) (ρ : Dev nD → PrngReg) (P : Dev nD → Params)
    (Y : Dev nD → Fin 131072 → Fin 16 → ℝ)
    (H : ∀ c : Dev nD, ArgsAre (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (P c) (Y c)) :
    θ_run defs (onTc (τ := τ) (main (F := Ideal))) ⟨m, fun _ => 0, ρ⟩ (fun r => ∀ c : Dev nD,
      (∀ n f, r.2.mem ((c.tc : Thread nD τ).loc main_v141) (ix2 n f) = rowValue (P c) (Y c n) f)
      ∧ (∀ n, r.2.mem ((c.tc : Thread nD τ).loc main_v143) (ix1 n) = rowLog (P c) (Y c n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨fun n f => (congrFun ((h c).1.trans (Read.val_main_v141_eq (StableHlo.launchContents m c))) (ix2 n f)).trans (ref_value (H c) n f),
     fun n => (congrFun ((h c).2.1.trans (Read.val_main_v143_eq (StableHlo.launchContents m c))) (ix1 n)).trans (ref_log (H c) n),
     (h c).2.2⟩)
    (Cert.ReferenceIdeal.Value.run (F := Ideal) m ρ)

end Reference

/-- From finite arguments, the kernel and the reference return the same first array, and the same second array at every row where
no denominator inside the interval is negative. -/
theorem agree : Cert.algebraic_KernelIdeal_ReferenceIdeal_on_denominators_not_negative_pre_finite := by
  intro m g m' g' hp hm
  have H := finite_args m hp
  refine ⟨values m, logs m, (θ_run _ _ _).mono (fun r h c => ?_) (kernel_run m g (launchParams m) (launchRows m) H),
    (θ_run _ _ _).mono (fun r h c => ?_) (reference_run m' g' (launchParams m) (launchRows m) (fun c => by
      obtain ⟨e0, e1, e2, e3, e4, e5, e6⟩ := hm c
      rw [e0, e1, e2, e3, e4, e5, e6]
      exact H c))⟩
  · refine ⟨fun i _ => ?_, fun i hi => ?_, (h c).2.2⟩
    · obtain ⟨n, f, rfl⟩ : ∃ n f, i = ix2 n f := ⟨i 0, i 1, eq_ix2 i⟩
      exact (h c).1 n f
    · obtain ⟨n, rfl⟩ : ∃ n, i = ix1 n := ⟨i 0, eq_ix1 i⟩
      exact ((h c).2.1 n).trans (rowLog'_eq _ _ fun f hf => mask_holds (H c) n hi f hf)
  · refine ⟨fun i _ => ?_, fun i _ => ?_, (h c).2.2⟩
    · obtain ⟨n, f, rfl⟩ : ∃ n f, i = ix2 n f := ⟨i 0, i 1, eq_ix2 i⟩
      exact (h c).1 n f
    · obtain ⟨n, rfl⟩ : ∃ n, i = ix1 n := ⟨i 0, eq_ix1 i⟩
      exact (h c).2.1 n

end Cert.Spline

end
-- ==== Proof.lean ====
/- The proof of the five claims about the spline kernel: the three programs leave their arguments and semaphores as they should, the
   named constant rounds to the word it stands for, and kernel and reference return the same values. The mathematics is in the modules
   of the folder Proof; this file assembles it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.On_denominators_not_negative
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Everything that is claimed, given the facts the generated modules prove. -/
theorem claim : Cert.Claim := ⟨Cert.Kernel.Gen.facts, Cert.KernelIdeal.Gen.facts, Cert.ReferenceIdeal.Gen.facts, Cert.Pre_finite.Gen.facts, Cert.On_denominators_not_negative.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2.2, sem_eq_zero_of_no_sems (by decide) r.2⟩)
    (Cert.ReferenceIdeal.Value.run (F := Ideal) m ρ),
  fun m ρ _ => (θ_run Cert.ReferenceIdeal.defs _ _).mono (fun r h => ⟨fun c => (h c).2.2, sem_eq_zero_of_no_sems (by decide) r.2⟩)
    (Cert.ReferenceIdeal.Value.run (F := Ideal) m ρ),
  IdealRules.named_const.statement Cert.KernelIdeal.κ "scale" .f32 0x40BE76C9#32 ((3195455667 / 536870912 : ℝ) : EReal) rfl,
  Cert.Spline.agree⟩

end Cert.Proof

end
